-- ==== Defs.lean ====
def Pre_Score (m : (ℓ : Loc Cert.Score.nD Cert.Score.τ Cert.Score.sig) → Buf (Elt Bits) ℓ) : Prop :=
  True

def Pre_ScoreIdeal (m : (ℓ : Loc Cert.ScoreIdeal.nD Cert.ScoreIdeal.τ Cert.ScoreIdeal.sig) → Buf (Elt Ideal) ℓ) : Prop :=
  True

def Pre_ScoreRefIdeal (m : (ℓ : Loc Cert.ScoreRefIdeal.nD Cert.ScoreRefIdeal.τ Cert.ScoreRefIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def quiescent_Score [hScore : Cert.Score.Facts] : Prop :=
  ∀ (m : (ℓ : Loc Cert.Score.nD Cert.Score.τ Cert.Score.sig) → Buf (Elt Bits) ℓ) (g : Dev Cert.Score.nD → PrngReg), Pre_Score m →
    θ_run (Cert.Score.defs (F := Bits)) (onTc (τ := Cert.Score.τ) (Cert.Score.main (F := Bits))) ⟨m, fun _ => 0, g⟩ (fun r => (∀ c : Dev Cert.Score.nD,
      r.2.mem ((c.tc : Thread Cert.Score.nD Cert.Score.τ).loc Cert.Score.main_arg0) = m ((c.tc : Thread Cert.Score.nD Cert.Score.τ).loc Cert.Score.main_arg0)
      ∧ r.2.mem ((c.tc : Thread Cert.Score.nD Cert.Score.τ).loc Cert.Score.main_arg1) = m ((c.tc : Thread Cert.Score.nD Cert.Score.τ).loc Cert.Score.main_arg1)
      ∧ r.2.mem ((c.tc : Thread Cert.Score.nD Cert.Score.τ).loc Cert.Score.main_arg2) = m ((c.tc : Thread Cert.Score.nD Cert.Score.τ).loc Cert.Score.main_arg2)
      ∧ r.2.mem ((c.tc : Thread Cert.Score.nD Cert.Score.τ).loc Cert.Score.main_arg3) = m ((c.tc : Thread Cert.Score.nD Cert.Score.τ).loc Cert.Score.main_arg3)
      ∧ r.2.mem ((c.tc : Thread Cert.Score.nD Cert.Score.τ).loc Cert.Score.main_arg4) = m ((c.tc : Thread Cert.Score.nD Cert.Score.τ).loc Cert.Score.main_arg4))
      ∧ r.2.sem = fun _ => 0)

def quiescent_ScoreIdeal [hScoreIdeal : Cert.ScoreIdeal.Facts] : Prop :=
  ∀ (m : (ℓ : Loc Cert.ScoreIdeal.nD Cert.ScoreIdeal.τ Cert.ScoreIdeal.sig) → Buf (Elt Ideal) ℓ) (g : Dev Cert.ScoreIdeal.nD → PrngReg), Pre_ScoreIdeal m →
    θ_run (Cert.ScoreIdeal.defs (F := Ideal)) (onTc (τ := Cert.ScoreIdeal.τ) (Cert.ScoreIdeal.main (F := Ideal))) ⟨m, fun _ => 0, g⟩ (fun r => (∀ c : Dev Cert.ScoreIdeal.nD,
      r.2.mem ((c.tc : Thread Cert.ScoreIdeal.nD Cert.ScoreIdeal.τ).loc Cert.ScoreIdeal.main_arg0) = m ((c.tc : Thread Cert.ScoreIdeal.nD Cert.ScoreIdeal.τ).loc Cert.ScoreIdeal.main_arg0)
      ∧ r.2.mem ((c.tc : Thread Cert.ScoreIdeal.nD Cert.ScoreIdeal.τ).loc Cert.ScoreIdeal.main_arg1) = m ((c.tc : Thread Cert.ScoreIdeal.nD Cert.ScoreIdeal.τ).loc Cert.ScoreIdeal.main_arg1)
      ∧ r.2.mem ((c.tc : Thread Cert.ScoreIdeal.nD Cert.ScoreIdeal.τ).loc Cert.ScoreIdeal.main_arg2) = m ((c.tc : Thread Cert.ScoreIdeal.nD Cert.ScoreIdeal.τ).loc Cert.ScoreIdeal.main_arg2)
      ∧ r.2.mem ((c.tc : Thread Cert.ScoreIdeal.nD Cert.ScoreIdeal.τ).loc Cert.ScoreIdeal.main_arg3) = m ((c.tc : Thread Cert.ScoreIdeal.nD Cert.ScoreIdeal.τ).loc Cert.ScoreIdeal.main_arg3)
      ∧ r.2.mem ((c.tc : Thread Cert.ScoreIdeal.nD Cert.ScoreIdeal.τ).loc Cert.ScoreIdeal.main_arg4) = m ((c.tc : Thread Cert.ScoreIdeal.nD Cert.ScoreIdeal.τ).loc Cert.ScoreIdeal.main_arg4))
      ∧ r.2.sem = fun _ => 0)

def quiescent_ScoreRefIdeal [hScoreRefIdeal : Cert.ScoreRefIdeal.Facts] : Prop :=
  ∀ (m : (ℓ : Loc Cert.ScoreRefIdeal.nD Cert.ScoreRefIdeal.τ Cert.ScoreRefIdeal.sig) → Buf (Elt Ideal) ℓ) (g : Dev Cert.ScoreRefIdeal.nD → PrngReg), Pre_ScoreRefIdeal m →
    θ_run (Cert.ScoreRefIdeal.defs (F := Ideal)) (onTc (τ := Cert.ScoreRefIdeal.τ) (Cert.ScoreRefIdeal.main (F := Ideal))) ⟨m, fun _ => 0, g⟩ (fun r => (∀ c : Dev Cert.ScoreRefIdeal.nD,
      r.2.mem ((c.tc : Thread Cert.ScoreRefIdeal.nD Cert.ScoreRefIdeal.τ).loc Cert.ScoreRefIdeal.main_arg0) = m ((c.tc : Thread Cert.ScoreRefIdeal.nD Cert.ScoreRefIdeal.τ).loc Cert.ScoreRefIdeal.main_arg0)
      ∧ r.2.mem ((c.tc : Thread Cert.ScoreRefIdeal.nD Cert.ScoreRefIdeal.τ).loc Cert.ScoreRefIdeal.main_arg1) = m ((c.tc : Thread Cert.ScoreRefIdeal.nD Cert.ScoreRefIdeal.τ).loc Cert.ScoreRefIdeal.main_arg1)
      ∧ r.2.mem ((c.tc : Thread Cert.ScoreRefIdeal.nD Cert.ScoreRefIdeal.τ).loc Cert.ScoreRefIdeal.main_arg2) = m ((c.tc : Thread Cert.ScoreRefIdeal.nD Cert.ScoreRefIdeal.τ).loc Cert.ScoreRefIdeal.main_arg2)
      ∧ r.2.mem ((c.tc : Thread Cert.ScoreRefIdeal.nD Cert.ScoreRefIdeal.τ).loc Cert.ScoreRefIdeal.main_arg3) = m ((c.tc : Thread Cert.ScoreRefIdeal.nD Cert.ScoreRefIdeal.τ).loc Cert.ScoreRefIdeal.main_arg3)
      ∧ r.2.mem ((c.tc : Thread Cert.ScoreRefIdeal.nD Cert.ScoreRefIdeal.τ).loc Cert.ScoreRefIdeal.main_arg4) = m ((c.tc : Thread Cert.ScoreRefIdeal.nD Cert.ScoreRefIdeal.τ).loc Cert.ScoreRefIdeal.main_arg4))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5)
      ∧ r.2.mem ((c.tc : Thread Cert.Head.nD Cert.Head.τ).loc Cert.Head.main_arg6) = m ((c.tc : Thread Cert.Head.nD Cert.Head.τ).loc Cert.Head.main_arg6)
      ∧ r.2.mem ((c.tc : Thread Cert.Head.nD Cert.Head.τ).loc Cert.Head.main_arg7) = m ((c.tc : Thread Cert.Head.nD Cert.Head.τ).loc Cert.Head.main_arg7)
      ∧ r.2.mem ((c.tc : Thread Cert.Head.nD Cert.Head.τ).loc Cert.Head.main_arg8) = m ((c.tc : Thread Cert.Head.nD Cert.Head.τ).loc Cert.Head.main_arg8)
      ∧ r.2.mem ((c.tc : Thread Cert.Head.nD Cert.Head.τ).loc Cert.Head.main_arg9) = m ((c.tc : Thread Cert.Head.nD Cert.Head.τ).loc Cert.Head.main_arg9)
      ∧ r.2.mem ((c.tc : Thread Cert.Head.nD Cert.Head.τ).loc Cert.Head.main_arg10) = m ((c.tc : Thread Cert.Head.nD Cert.Head.τ).loc Cert.Head.main_arg10)
      ∧ r.2.mem ((c.tc : Thread Cert.Head.nD Cert.Head.τ).loc Cert.Head.main_arg11) = m ((c.tc : Thread Cert.Head.nD Cert.Head.τ).loc Cert.Head.main_arg11)
      ∧ r.2.mem ((c.tc : Thread Cert.Head.nD Cert.Head.τ).loc Cert.Head.main_arg12) = m ((c.tc : Thread Cert.Head.nD Cert.Head.τ).loc Cert.Head.main_arg12)
      ∧ r.2.mem ((c.tc : Thread Cert.Head.nD Cert.Head.τ).loc Cert.Head.main_arg13) = m ((c.tc : Thread Cert.Head.nD Cert.Head.τ).loc Cert.Head.main_arg13)
      ∧ r.2.mem ((c.tc : Thread Cert.Head.nD Cert.Head.τ).loc Cert.Head.main_arg14) = m ((c.tc : Thread Cert.Head.nD Cert.Head.τ).loc Cert.Head.main_arg14)
      ∧ r.2.mem ((c.tc : Thread Cert.Head.nD Cert.Head.τ).loc Cert.Head.main_arg15) = m ((c.tc : Thread Cert.Head.nD Cert.Head.τ).loc Cert.Head.main_arg15)
      ∧ r.2.mem ((c.tc : Thread Cert.Head.nD Cert.Head.τ).loc Cert.Head.main_arg16) = m ((c.tc : Thread Cert.Head.nD Cert.Head.τ).loc Cert.Head.main_arg16)
      ∧ r.2.mem ((c.tc : Thread Cert.Head.nD Cert.Head.τ).loc Cert.Head.main_arg17) = m ((c.tc : Thread Cert.Head.nD Cert.Head.τ).loc Cert.Head.main_arg17)
      ∧ r.2.mem ((c.tc : Thread Cert.Head.nD Cert.Head.τ).loc Cert.Head.main_arg18) = m ((c.tc : Thread Cert.Head.nD Cert.Head.τ).loc Cert.Head.main_arg18)
      ∧ r.2.mem ((c.tc : Thread Cert.Head.nD Cert.Head.τ).loc Cert.Head.main_arg19) = m ((c.tc : Thread Cert.Head.nD Cert.Head.τ).loc Cert.Head.main_arg19)
      ∧ r.2.mem ((c.tc : Thread Cert.Head.nD Cert.Head.τ).loc Cert.Head.main_arg20) = m ((c.tc : Thread Cert.Head.nD Cert.Head.τ).loc Cert.Head.main_arg20)
      ∧ r.2.mem ((c.tc : Thread Cert.Head.nD Cert.Head.τ).loc Cert.Head.main_arg21) = m ((c.tc : Thread Cert.Head.nD Cert.Head.τ).loc Cert.Head.main_arg21)
      ∧ r.2.mem ((c.tc : Thread Cert.Head.nD Cert.Head.τ).loc Cert.Head.main_arg22) = m ((c.tc : Thread Cert.Head.nD Cert.Head.τ).loc Cert.Head.main_arg22)
      ∧ r.2.mem ((c.tc : Thread Cert.Head.nD Cert.Head.τ).loc Cert.Head.main_arg23) = m ((c.tc : Thread Cert.Head.nD Cert.Head.τ).loc Cert.Head.main_arg23))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
      ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
      ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8)
      ∧ r.2.mem ((c.tc : Thread Cert.HeadIdeal.nD Cert.HeadIdeal.τ).loc Cert.HeadIdeal.main_arg9) = m ((c.tc : Thread Cert.HeadIdeal.nD Cert.HeadIdeal.τ).loc Cert.HeadIdeal.main_arg9)
      ∧ r.2.mem ((c.tc : Thread Cert.HeadIdeal.nD Cert.HeadIdeal.τ).loc Cert.HeadIdeal.main_arg10) = m ((c.tc : Thread Cert.HeadIdeal.nD Cert.HeadIdeal.τ).loc Cert.HeadIdeal.main_arg10)
      ∧ r.2.mem ((c.tc : Thread Cert.HeadIdeal.nD Cert.HeadIdeal.τ).loc Cert.HeadIdeal.main_arg11) = m ((c.tc : Thread Cert.HeadIdeal.nD Cert.HeadIdeal.τ).loc Cert.HeadIdeal.main_arg11)
      ∧ r.2.mem ((c.tc : Thread Cert.HeadIdeal.nD Cert.HeadIdeal.τ).loc Cert.HeadIdeal.main_arg12) = m ((c.tc : Thread Cert.HeadIdeal.nD Cert.HeadIdeal.τ).loc Cert.HeadIdeal.main_arg12)
      ∧ r.2.mem ((c.tc : Thread Cert.HeadIdeal.nD Cert.HeadIdeal.τ).loc Cert.HeadIdeal.main_arg13) = m ((c.tc : Thread Cert.HeadIdeal.nD Cert.HeadIdeal.τ).loc Cert.HeadIdeal.main_arg13)
      ∧ r.2.mem ((c.tc : Thread Cert.HeadIdeal.nD Cert.HeadIdeal.τ).loc Cert.HeadIdeal.main_arg14) = m ((c.tc : Thread Cert.HeadIdeal.nD Cert.HeadIdeal.τ).loc Cert.HeadIdeal.main_arg14)
      ∧ r.2.mem ((c.tc : Thread Cert.HeadIdeal.nD Cert.HeadIdeal.τ).loc Cert.HeadIdeal.main_arg15) = m ((c.tc : Thread Cert.HeadIdeal.nD Cert.HeadIdeal.τ).loc Cert.HeadIdeal.main_arg15)
      ∧ r.2.mem ((c.tc : Thread Cert.HeadIdeal.nD Cert.HeadIdeal.τ).loc Cert.HeadIdeal.main_arg16) = m ((c.tc : Thread Cert.HeadIdeal.nD Cert.HeadIdeal.τ).loc Cert.HeadIdeal.main_arg16)
      ∧ r.2.mem ((c.tc : Thread Cert.HeadIdeal.nD Cert.HeadIdeal.τ).loc Cert.HeadIdeal.main_arg17) = m ((c.tc : Thread Cert.HeadIdeal.nD Cert.HeadIdeal.τ).loc Cert.HeadIdeal.main_arg17)
      ∧ r.2.mem ((c.tc : Thread Cert.HeadIdeal.nD Cert.HeadIdeal.τ).loc Cert.HeadIdeal.main_arg18) = m ((c.tc : Thread Cert.HeadIdeal.nD Cert.HeadIdeal.τ).loc Cert.HeadIdeal.main_arg18)
      ∧ r.2.mem ((c.tc : Thread Cert.HeadIdeal.nD Cert.HeadIdeal.τ).loc Cert.HeadIdeal.main_arg19) = m ((c.tc : Thread Cert.HeadIdeal.nD Cert.HeadIdeal.τ).loc Cert.HeadIdeal.main_arg19)
      ∧ r.2.mem ((c.tc : Thread Cert.HeadIdeal.nD Cert.HeadIdeal.τ).loc Cert.HeadIdeal.main_arg20) = m ((c.tc : Thread Cert.HeadIdeal.nD Cert.HeadIdeal.τ).loc Cert.HeadIdeal.main_arg20)
      ∧ r.2.mem ((c.tc : Thread Cert.HeadIdeal.nD Cert.HeadIdeal.τ).loc Cert.HeadIdeal.main_arg21) = m ((c.tc : Thread Cert.HeadIdeal.nD Cert.HeadIdeal.τ).loc Cert.HeadIdeal.main_arg21)
      ∧ r.2.mem ((c.tc : Thread Cert.HeadIdeal.nD Cert.HeadIdeal.τ).loc Cert.HeadIdeal.main_arg22) = m ((c.tc : Thread Cert.HeadIdeal.nD Cert.HeadIdeal.τ).loc Cert.HeadIdeal.main_arg22)
      ∧ r.2.mem ((c.tc : Thread Cert.HeadIdeal.nD Cert.HeadIdeal.τ).loc Cert.HeadIdeal.main_arg23) = m ((c.tc : Thread Cert.HeadIdeal.nD Cert.HeadIdeal.τ).loc Cert.HeadIdeal.main_arg23))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6)
      ∧ r.2.mem ((c.tc : Thread Cert.HeadRefIdeal.nD Cert.HeadRefIdeal.τ).loc Cert.HeadRefIdeal.main_arg7) = m ((c.tc : Thread Cert.HeadRefIdeal.nD Cert.HeadRefIdeal.τ).loc Cert.HeadRefIdeal.main_arg7)
      ∧ r.2.mem ((c.tc : Thread Cert.HeadRefIdeal.nD Cert.HeadRefIdeal.τ).loc Cert.HeadRefIdeal.main_arg8) = m ((c.tc : Thread Cert.HeadRefIdeal.nD Cert.HeadRefIdeal.τ).loc Cert.HeadRefIdeal.main_arg8)
      ∧ r.2.mem ((c.tc : Thread Cert.HeadRefIdeal.nD Cert.HeadRefIdeal.τ).loc Cert.HeadRefIdeal.main_arg9) = m ((c.tc : Thread Cert.HeadRefIdeal.nD Cert.HeadRefIdeal.τ).loc Cert.HeadRefIdeal.main_arg9)
      ∧ r.2.mem ((c.tc : Thread Cert.HeadRefIdeal.nD Cert.HeadRefIdeal.τ).loc Cert.HeadRefIdeal.main_arg10) = m ((c.tc : Thread Cert.HeadRefIdeal.nD Cert.HeadRefIdeal.τ).loc Cert.HeadRefIdeal.main_arg10)
      ∧ r.2.mem ((c.tc : Thread Cert.HeadRefIdeal.nD Cert.HeadRefIdeal.τ).loc Cert.HeadRefIdeal.main_arg11) = m ((c.tc : Thread Cert.HeadRefIdeal.nD Cert.HeadRefIdeal.τ).loc Cert.HeadRefIdeal.main_arg11)
      ∧ r.2.mem ((c.tc : Thread Cert.HeadRefIdeal.nD Cert.HeadRefIdeal.τ).loc Cert.HeadRefIdeal.main_arg12) = m ((c.tc : Thread Cert.HeadRefIdeal.nD Cert.HeadRefIdeal.τ).loc Cert.HeadRefIdeal.main_arg12)
      ∧ r.2.mem ((c.tc : Thread Cert.HeadRefIdeal.nD Cert.HeadRefIdeal.τ).loc Cert.HeadRefIdeal.main_arg13) = m ((c.tc : Thread Cert.HeadRefIdeal.nD Cert.HeadRefIdeal.τ).loc Cert.HeadRefIdeal.main_arg13)
      ∧ r.2.mem ((c.tc : Thread Cert.HeadRefIdeal.nD Cert.HeadRefIdeal.τ).loc Cert.HeadRefIdeal.main_arg14) = m ((c.tc : Thread Cert.HeadRefIdeal.nD Cert.HeadRefIdeal.τ).loc Cert.HeadRefIdeal.main_arg14)
      ∧ r.2.mem ((c.tc : Thread Cert.HeadRefIdeal.nD Cert.HeadRefIdeal.τ).loc Cert.HeadRefIdeal.main_arg15) = m ((c.tc : Thread Cert.HeadRefIdeal.nD Cert.HeadRefIdeal.τ).loc Cert.HeadRefIdeal.main_arg15)
      ∧ r.2.mem ((c.tc : Thread Cert.HeadRefIdeal.nD Cert.HeadRefIdeal.τ).loc Cert.HeadRefIdeal.main_arg16) = m ((c.tc : Thread Cert.HeadRefIdeal.nD Cert.HeadRefIdeal.τ).loc Cert.HeadRefIdeal.main_arg16)
      ∧ r.2.mem ((c.tc : Thread Cert.HeadRefIdeal.nD Cert.HeadRefIdeal.τ).loc Cert.HeadRefIdeal.main_arg17) = m ((c.tc : Thread Cert.HeadRefIdeal.nD Cert.HeadRefIdeal.τ).loc Cert.HeadRefIdeal.main_arg17)
      ∧ r.2.mem ((c.tc : Thread Cert.HeadRefIdeal.nD Cert.HeadRefIdeal.τ).loc Cert.HeadRefIdeal.main_arg18) = m ((c.tc : Thread Cert.HeadRefIdeal.nD Cert.HeadRefIdeal.τ).loc Cert.HeadRefIdeal.main_arg18)
      ∧ r.2.mem ((c.tc : Thread Cert.HeadRefIdeal.nD Cert.HeadRefIdeal.τ).loc Cert.HeadRefIdeal.main_arg19) = m ((c.tc : Thread Cert.HeadRefIdeal.nD Cert.HeadRefIdeal.τ).loc Cert.HeadRefIdeal.main_arg19)
      ∧ r.2.mem ((c.tc : Thread Cert.HeadRefIdeal.nD Cert.HeadRefIdeal.τ).loc Cert.HeadRefIdeal.main_arg20) = m ((c.tc : Thread Cert.HeadRefIdeal.nD Cert.HeadRefIdeal.τ).loc Cert.HeadRefIdeal.main_arg20)
      ∧ r.2.mem ((c.tc : Thread Cert.HeadRefIdeal.nD Cert.HeadRefIdeal.τ).loc Cert.HeadRefIdeal.main_arg21) = m ((c.tc : Thread Cert.HeadRefIdeal.nD Cert.HeadRefIdeal.τ).loc Cert.HeadRefIdeal.main_arg21)
      ∧ r.2.mem ((c.tc : Thread Cert.HeadRefIdeal.nD Cert.HeadRefIdeal.τ).loc Cert.HeadRefIdeal.main_arg22) = m ((c.tc : Thread Cert.HeadRefIdeal.nD Cert.HeadRefIdeal.τ).loc Cert.HeadRefIdeal.main_arg22)
      ∧ r.2.mem ((c.tc : Thread Cert.HeadRefIdeal.nD Cert.HeadRefIdeal.τ).loc Cert.HeadRefIdeal.main_arg23) = m ((c.tc : Thread Cert.HeadRefIdeal.nD Cert.HeadRefIdeal.τ).loc Cert.HeadRefIdeal.main_arg23))
      ∧ r.2.sem = fun _ => 0)

def preserves_Score_ScoreIdeal : Prop :=
  True

def algebraic_ScoreIdeal_ScoreRefIdeal [hScoreIdeal : Cert.ScoreIdeal.Facts] [hScoreRefIdeal : Cert.ScoreRefIdeal.Facts] : Prop :=
  ∀ (m : (ℓ : Loc Cert.ScoreIdeal.nD Cert.ScoreIdeal.τ Cert.ScoreIdeal.sig) → Buf (Elt Ideal) ℓ) (g : Dev Cert.ScoreIdeal.nD → PrngReg)
    (m' : (ℓ : Loc Cert.ScoreRefIdeal.nD Cert.ScoreRefIdeal.τ Cert.ScoreRefIdeal.sig) → Buf (Elt Ideal) ℓ) (g' : Dev Cert.ScoreRefIdeal.nD → PrngReg), Pre_ScoreIdeal m →
    (∀ c : Dev Cert.ScoreIdeal.nD,
      m' ((c.tc : Thread Cert.ScoreRefIdeal.nD Cert.ScoreRefIdeal.τ).loc Cert.ScoreRefIdeal.main_arg0) = m ((c.tc : Thread Cert.ScoreIdeal.nD Cert.ScoreIdeal.τ).loc Cert.ScoreIdeal.main_arg0)
      ∧ m' ((c.tc : Thread Cert.ScoreRefIdeal.nD Cert.ScoreRefIdeal.τ).loc Cert.ScoreRefIdeal.main_arg1) = m ((c.tc : Thread Cert.ScoreIdeal.nD Cert.ScoreIdeal.τ).loc Cert.ScoreIdeal.main_arg1)
      ∧ m' ((c.tc : Thread Cert.ScoreRefIdeal.nD Cert.ScoreRefIdeal.τ).loc Cert.ScoreRefIdeal.main_arg2) = m ((c.tc : Thread Cert.ScoreIdeal.nD Cert.ScoreIdeal.τ).loc Cert.ScoreIdeal.main_arg2)
      ∧ m' ((c.tc : Thread Cert.ScoreRefIdeal.nD Cert.ScoreRefIdeal.τ).loc Cert.ScoreRefIdeal.main_arg3) = m ((c.tc : Thread Cert.ScoreIdeal.nD Cert.ScoreIdeal.τ).loc Cert.ScoreIdeal.main_arg3)
      ∧ m' ((c.tc : Thread Cert.ScoreRefIdeal.nD Cert.ScoreRefIdeal.τ).loc Cert.ScoreRefIdeal.main_arg4) = m ((c.tc : Thread Cert.ScoreIdeal.nD Cert.ScoreIdeal.τ).loc Cert.ScoreIdeal.main_arg4)) →
    ∃ (v0 : (c : Dev Cert.ScoreIdeal.nD) → Buf (Elt Ideal) ((c.tc : Thread Cert.ScoreIdeal.nD Cert.ScoreIdeal.τ).loc Cert.ScoreIdeal.main_v29)),
      θ_run (Cert.ScoreIdeal.defs (F := Ideal)) (onTc (τ := Cert.ScoreIdeal.τ) (Cert.ScoreIdeal.main (F := Ideal))) ⟨m, fun _ => 0, g⟩ (fun r => ∀ c : Dev Cert.ScoreIdeal.nD,
          r.2.mem ((c.tc : Thread Cert.ScoreIdeal.nD Cert.ScoreIdeal.τ).loc Cert.ScoreIdeal.main_v29) = v0 c
          ∧ r.2.mem ((c.tc : Thread Cert.ScoreIdeal.nD Cert.ScoreIdeal.τ).loc Cert.ScoreIdeal.main_arg0) = m ((c.tc : Thread Cert.ScoreIdeal.nD Cert.ScoreIdeal.τ).loc Cert.ScoreIdeal.main_arg0)
          ∧ r.2.mem ((c.tc : Thread Cert.ScoreIdeal.nD Cert.ScoreIdeal.τ).loc Cert.ScoreIdeal.main_arg1) = m ((c.tc : Thread Cert.ScoreIdeal.nD Cert.ScoreIdeal.τ).loc Cert.ScoreIdeal.main_arg1)
          ∧ r.2.mem ((c.tc : Thread Cert.ScoreIdeal.nD Cert.ScoreIdeal.τ).loc Cert.ScoreIdeal.main_arg2) = m ((c.tc : Thread Cert.ScoreIdeal.nD Cert.ScoreIdeal.τ).loc Cert.ScoreIdeal.main_arg2)
          ∧ r.2.mem ((c.tc : Thread Cert.ScoreIdeal.nD Cert.ScoreIdeal.τ).loc Cert.ScoreIdeal.main_arg3) = m ((c.tc : Thread Cert.ScoreIdeal.nD Cert.ScoreIdeal.τ).loc Cert.ScoreIdeal.main_arg3)
          ∧ r.2.mem ((c.tc : Thread Cert.ScoreIdeal.nD Cert.ScoreIdeal.τ).loc Cert.ScoreIdeal.main_arg4) = m ((c.tc : Thread Cert.ScoreIdeal.nD Cert.ScoreIdeal.τ).loc Cert.ScoreIdeal.main_arg4))
      ∧ θ_run (Cert.ScoreRefIdeal.defs (F := Ideal)) (onTc (τ := Cert.ScoreRefIdeal.τ) (Cert.ScoreRefIdeal.main (F := Ideal))) ⟨m', fun _ => 0, g'⟩ (fun r => ∀ c : Dev Cert.ScoreRefIdeal.nD,
          r.2.mem ((c.tc : Thread Cert.ScoreRefIdeal.nD Cert.ScoreRefIdeal.τ).loc Cert.ScoreRefIdeal.main_v22) = v0 c
          ∧ r.2.mem ((c.tc : Thread Cert.ScoreRefIdeal.nD Cert.ScoreRefIdeal.τ).loc Cert.ScoreRefIdeal.main_arg0) = m' ((c.tc : Thread Cert.ScoreRefIdeal.nD Cert.ScoreRefIdeal.τ).loc Cert.ScoreRefIdeal.main_arg0)
          ∧ r.2.mem ((c.tc : Thread Cert.ScoreRefIdeal.nD Cert.ScoreRefIdeal.τ).loc Cert.ScoreRefIdeal.main_arg1) = m' ((c.tc : Thread Cert.ScoreRefIdeal.nD Cert.ScoreRefIdeal.τ).loc Cert.ScoreRefIdeal.main_arg1)
          ∧ r.2.mem ((c.tc : Thread Cert.ScoreRefIdeal.nD Cert.ScoreRefIdeal.τ).loc Cert.ScoreRefIdeal.main_arg2) = m' ((c.tc : Thread Cert.ScoreRefIdeal.nD Cert.ScoreRefIdeal.τ).loc Cert.ScoreRefIdeal.main_arg2)
          ∧ r.2.mem ((c.tc : Thread Cert.ScoreRefIdeal.nD Cert.ScoreRefIdeal.τ).loc Cert.ScoreRefIdeal.main_arg3) = m' ((c.tc : Thread Cert.ScoreRefIdeal.nD Cert.ScoreRefIdeal.τ).loc Cert.ScoreRefIdeal.main_arg3)
          ∧ r.2.mem ((c.tc : Thread Cert.ScoreRefIdeal.nD Cert.ScoreRefIdeal.τ).loc Cert.ScoreRefIdeal.main_arg4) = m' ((c.tc : Thread Cert.ScoreRefIdeal.nD Cert.ScoreRefIdeal.τ).loc Cert.ScoreRefIdeal.main_arg4))

def preserves_Head_HeadIdeal : Prop :=
  IdealRules.named_const.Statement Cert.HeadIdeal.κ "mask" .f32 0xF149F2CA#32 ⊥

def algebraic_HeadIdeal_HeadRefIdeal [hHeadIdeal : Cert.HeadIdeal.Facts] [hHeadRefIdeal : Cert.HeadRefIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)
      ∧ m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)
      ∧ m' ((c.tc : Thread Cert.HeadRefIdeal.nD Cert.HeadRefIdeal.τ).loc Cert.HeadRefIdeal.main_arg6) = m ((c.tc : Thread Cert.HeadIdeal.nD Cert.HeadIdeal.τ).loc Cert.HeadIdeal.main_arg6)
      ∧ m' ((c.tc : Thread Cert.HeadRefIdeal.nD Cert.HeadRefIdeal.τ).loc Cert.HeadRefIdeal.main_arg7) = m ((c.tc : Thread Cert.HeadIdeal.nD Cert.HeadIdeal.τ).loc Cert.HeadIdeal.main_arg7)
      ∧ m' ((c.tc : Thread Cert.HeadRefIdeal.nD Cert.HeadRefIdeal.τ).loc Cert.HeadRefIdeal.main_arg8) = m ((c.tc : Thread Cert.HeadIdeal.nD Cert.HeadIdeal.τ).loc Cert.HeadIdeal.main_arg8)
      ∧ m' ((c.tc : Thread Cert.HeadRefIdeal.nD Cert.HeadRefIdeal.τ).loc Cert.HeadRefIdeal.main_arg9) = m ((c.tc : Thread Cert.HeadIdeal.nD Cert.HeadIdeal.τ).loc Cert.HeadIdeal.main_arg9)
      ∧ m' ((c.tc : Thread Cert.HeadRefIdeal.nD Cert.HeadRefIdeal.τ).loc Cert.HeadRefIdeal.main_arg10) = m ((c.tc : Thread Cert.HeadIdeal.nD Cert.HeadIdeal.τ).loc Cert.HeadIdeal.main_arg10)
      ∧ m' ((c.tc : Thread Cert.HeadRefIdeal.nD Cert.HeadRefIdeal.τ).loc Cert.HeadRefIdeal.main_arg11) = m ((c.tc : Thread Cert.HeadIdeal.nD Cert.HeadIdeal.τ).loc Cert.HeadIdeal.main_arg11)
      ∧ m' ((c.tc : Thread Cert.HeadRefIdeal.nD Cert.HeadRefIdeal.τ).loc Cert.HeadRefIdeal.main_arg12) = m ((c.tc : Thread Cert.HeadIdeal.nD Cert.HeadIdeal.τ).loc Cert.HeadIdeal.main_arg12)
      ∧ m' ((c.tc : Thread Cert.HeadRefIdeal.nD Cert.HeadRefIdeal.τ).loc Cert.HeadRefIdeal.main_arg13) = m ((c.tc : Thread Cert.HeadIdeal.nD Cert.HeadIdeal.τ).loc Cert.HeadIdeal.main_arg13)
      ∧ m' ((c.tc : Thread Cert.HeadRefIdeal.nD Cert.HeadRefIdeal.τ).loc Cert.HeadRefIdeal.main_arg14) = m ((c.tc : Thread Cert.HeadIdeal.nD Cert.HeadIdeal.τ).loc Cert.HeadIdeal.main_arg14)
      ∧ m' ((c.tc : Thread Cert.HeadRefIdeal.nD Cert.HeadRefIdeal.τ).loc Cert.HeadRefIdeal.main_arg15) = m ((c.tc : Thread Cert.HeadIdeal.nD Cert.HeadIdeal.τ).loc Cert.HeadIdeal.main_arg15)
      ∧ m' ((c.tc : Thread Cert.HeadRefIdeal.nD Cert.HeadRefIdeal.τ).loc Cert.HeadRefIdeal.main_arg16) = m ((c.tc : Thread Cert.HeadIdeal.nD Cert.HeadIdeal.τ).loc Cert.HeadIdeal.main_arg16)
      ∧ m' ((c.tc : Thread Cert.HeadRefIdeal.nD Cert.HeadRefIdeal.τ).loc Cert.HeadRefIdeal.main_arg17) = m ((c.tc : Thread Cert.HeadIdeal.nD Cert.HeadIdeal.τ).loc Cert.HeadIdeal.main_arg17)
      ∧ m' ((c.tc : Thread Cert.HeadRefIdeal.nD Cert.HeadRefIdeal.τ).loc Cert.HeadRefIdeal.main_arg18) = m ((c.tc : Thread Cert.HeadIdeal.nD Cert.HeadIdeal.τ).loc Cert.HeadIdeal.main_arg18)
      ∧ m' ((c.tc : Thread Cert.HeadRefIdeal.nD Cert.HeadRefIdeal.τ).loc Cert.HeadRefIdeal.main_arg19) = m ((c.tc : Thread Cert.HeadIdeal.nD Cert.HeadIdeal.τ).loc Cert.HeadIdeal.main_arg19)
      ∧ m' ((c.tc : Thread Cert.HeadRefIdeal.nD Cert.HeadRefIdeal.τ).loc Cert.HeadRefIdeal.main_arg20) = m ((c.tc : Thread Cert.HeadIdeal.nD Cert.HeadIdeal.τ).loc Cert.HeadIdeal.main_arg20)
      ∧ m' ((c.tc : Thread Cert.HeadRefIdeal.nD Cert.HeadRefIdeal.τ).loc Cert.HeadRefIdeal.main_arg21) = m ((c.tc : Thread Cert.HeadIdeal.nD Cert.HeadIdeal.τ).loc Cert.HeadIdeal.main_arg21)
      ∧ m' ((c.tc : Thread Cert.HeadRefIdeal.nD Cert.HeadRefIdeal.τ).loc Cert.HeadRefIdeal.main_arg22) = m ((c.tc : Thread Cert.HeadIdeal.nD Cert.HeadIdeal.τ).loc Cert.HeadIdeal.main_arg22)
      ∧ m' ((c.tc : Thread Cert.HeadRefIdeal.nD Cert.HeadRefIdeal.τ).loc Cert.HeadRefIdeal.main_arg23) = m ((c.tc : Thread Cert.HeadIdeal.nD Cert.HeadIdeal.τ).loc Cert.HeadIdeal.main_arg23)) →
    ∃ (v0 : (c : Dev Cert.HeadIdeal.nD) → Buf (Elt Ideal) ((c.tc : Thread Cert.HeadIdeal.nD Cert.HeadIdeal.τ).loc Cert.HeadIdeal.main_v57)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v57) = v0 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
          ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
          ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
          ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8)
          ∧ r.2.mem ((c.tc : Thread Cert.HeadIdeal.nD Cert.HeadIdeal.τ).loc Cert.HeadIdeal.main_arg9) = m ((c.tc : Thread Cert.HeadIdeal.nD Cert.HeadIdeal.τ).loc Cert.HeadIdeal.main_arg9)
          ∧ r.2.mem ((c.tc : Thread Cert.HeadIdeal.nD Cert.HeadIdeal.τ).loc Cert.HeadIdeal.main_arg10) = m ((c.tc : Thread Cert.HeadIdeal.nD Cert.HeadIdeal.τ).loc Cert.HeadIdeal.main_arg10)
          ∧ r.2.mem ((c.tc : Thread Cert.HeadIdeal.nD Cert.HeadIdeal.τ).loc Cert.HeadIdeal.main_arg11) = m ((c.tc : Thread Cert.HeadIdeal.nD Cert.HeadIdeal.τ).loc Cert.HeadIdeal.main_arg11)
          ∧ r.2.mem ((c.tc : Thread Cert.HeadIdeal.nD Cert.HeadIdeal.τ).loc Cert.HeadIdeal.main_arg12) = m ((c.tc : Thread Cert.HeadIdeal.nD Cert.HeadIdeal.τ).loc Cert.HeadIdeal.main_arg12)
          ∧ r.2.mem ((c.tc : Thread Cert.HeadIdeal.nD Cert.HeadIdeal.τ).loc Cert.HeadIdeal.main_arg13) = m ((c.tc : Thread Cert.HeadIdeal.nD Cert.HeadIdeal.τ).loc Cert.HeadIdeal.main_arg13)
          ∧ r.2.mem ((c.tc : Thread Cert.HeadIdeal.nD Cert.HeadIdeal.τ).loc Cert.HeadIdeal.main_arg14) = m ((c.tc : Thread Cert.HeadIdeal.nD Cert.HeadIdeal.τ).loc Cert.HeadIdeal.main_arg14)
          ∧ r.2.mem ((c.tc : Thread Cert.HeadIdeal.nD Cert.HeadIdeal.τ).loc Cert.HeadIdeal.main_arg15) = m ((c.tc : Thread Cert.HeadIdeal.nD Cert.HeadIdeal.τ).loc Cert.HeadIdeal.main_arg15)
          ∧ r.2.mem ((c.tc : Thread Cert.HeadIdeal.nD Cert.HeadIdeal.τ).loc Cert.HeadIdeal.main_arg16) = m ((c.tc : Thread Cert.HeadIdeal.nD Cert.HeadIdeal.τ).loc Cert.HeadIdeal.main_arg16)
          ∧ r.2.mem ((c.tc : Thread Cert.HeadIdeal.nD Cert.HeadIdeal.τ).loc Cert.HeadIdeal.main_arg17) = m ((c.tc : Thread Cert.HeadIdeal.nD Cert.HeadIdeal.τ).loc Cert.HeadIdeal.main_arg17)
          ∧ r.2.mem ((c.tc : Thread Cert.HeadIdeal.nD Cert.HeadIdeal.τ).loc Cert.HeadIdeal.main_arg18) = m ((c.tc : Thread Cert.HeadIdeal.nD Cert.HeadIdeal.τ).loc Cert.HeadIdeal.main_arg18)
          ∧ r.2.mem ((c.tc : Thread Cert.HeadIdeal.nD Cert.HeadIdeal.τ).loc Cert.HeadIdeal.main_arg19) = m ((c.tc : Thread Cert.HeadIdeal.nD Cert.HeadIdeal.τ).loc Cert.HeadIdeal.main_arg19)
          ∧ r.2.mem ((c.tc : Thread Cert.HeadIdeal.nD Cert.HeadIdeal.τ).loc Cert.HeadIdeal.main_arg20) = m ((c.tc : Thread Cert.HeadIdeal.nD Cert.HeadIdeal.τ).loc Cert.HeadIdeal.main_arg20)
          ∧ r.2.mem ((c.tc : Thread Cert.HeadIdeal.nD Cert.HeadIdeal.τ).loc Cert.HeadIdeal.main_arg21) = m ((c.tc : Thread Cert.HeadIdeal.nD Cert.HeadIdeal.τ).loc Cert.HeadIdeal.main_arg21)
          ∧ r.2.mem ((c.tc : Thread Cert.HeadIdeal.nD Cert.HeadIdeal.τ).loc Cert.HeadIdeal.main_arg22) = m ((c.tc : Thread Cert.HeadIdeal.nD Cert.HeadIdeal.τ).loc Cert.HeadIdeal.main_arg22)
          ∧ r.2.mem ((c.tc : Thread Cert.HeadIdeal.nD Cert.HeadIdeal.τ).loc Cert.HeadIdeal.main_arg23) = m ((c.tc : Thread Cert.HeadIdeal.nD Cert.HeadIdeal.τ).loc Cert.HeadIdeal.main_arg23))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v346) = v0 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5)
          ∧ r.2.mem ((c.tc : Thread Cert.HeadRefIdeal.nD Cert.HeadRefIdeal.τ).loc Cert.HeadRefIdeal.main_arg6) = m' ((c.tc : Thread Cert.HeadRefIdeal.nD Cert.HeadRefIdeal.τ).loc Cert.HeadRefIdeal.main_arg6)
          ∧ r.2.mem ((c.tc : Thread Cert.HeadRefIdeal.nD Cert.HeadRefIdeal.τ).loc Cert.HeadRefIdeal.main_arg7) = m' ((c.tc : Thread Cert.HeadRefIdeal.nD Cert.HeadRefIdeal.τ).loc Cert.HeadRefIdeal.main_arg7)
          ∧ r.2.mem ((c.tc : Thread Cert.HeadRefIdeal.nD Cert.HeadRefIdeal.τ).loc Cert.HeadRefIdeal.main_arg8) = m' ((c.tc : Thread Cert.HeadRefIdeal.nD Cert.HeadRefIdeal.τ).loc Cert.HeadRefIdeal.main_arg8)
          ∧ r.2.mem ((c.tc : Thread Cert.HeadRefIdeal.nD Cert.HeadRefIdeal.τ).loc Cert.HeadRefIdeal.main_arg9) = m' ((c.tc : Thread Cert.HeadRefIdeal.nD Cert.HeadRefIdeal.τ).loc Cert.HeadRefIdeal.main_arg9)
          ∧ r.2.mem ((c.tc : Thread Cert.HeadRefIdeal.nD Cert.HeadRefIdeal.τ).loc Cert.HeadRefIdeal.main_arg10) = m' ((c.tc : Thread Cert.HeadRefIdeal.nD Cert.HeadRefIdeal.τ).loc Cert.HeadRefIdeal.main_arg10)
          ∧ r.2.mem ((c.tc : Thread Cert.HeadRefIdeal.nD Cert.HeadRefIdeal.τ).loc Cert.HeadRefIdeal.main_arg11) = m' ((c.tc : Thread Cert.HeadRefIdeal.nD Cert.HeadRefIdeal.τ).loc Cert.HeadRefIdeal.main_arg11)
          ∧ r.2.mem ((c.tc : Thread Cert.HeadRefIdeal.nD Cert.HeadRefIdeal.τ).loc Cert.HeadRefIdeal.main_arg12) = m' ((c.tc : Thread Cert.HeadRefIdeal.nD Cert.HeadRefIdeal.τ).loc Cert.HeadRefIdeal.main_arg12)
          ∧ r.2.mem ((c.tc : Thread Cert.HeadRefIdeal.nD Cert.HeadRefIdeal.τ).loc Cert.HeadRefIdeal.main_arg13) = m' ((c.tc : Thread Cert.HeadRefIdeal.nD Cert.HeadRefIdeal.τ).loc Cert.HeadRefIdeal.main_arg13)
          ∧ r.2.mem ((c.tc : Thread Cert.HeadRefIdeal.nD Cert.HeadRefIdeal.τ).loc Cert.HeadRefIdeal.main_arg14) = m' ((c.tc : Thread Cert.HeadRefIdeal.nD Cert.HeadRefIdeal.τ).loc Cert.HeadRefIdeal.main_arg14)
          ∧ r.2.mem ((c.tc : Thread Cert.HeadRefIdeal.nD Cert.HeadRefIdeal.τ).loc Cert.HeadRefIdeal.main_arg15) = m' ((c.tc : Thread Cert.HeadRefIdeal.nD Cert.HeadRefIdeal.τ).loc Cert.HeadRefIdeal.main_arg15)
          ∧ r.2.mem ((c.tc : Thread Cert.HeadRefIdeal.nD Cert.HeadRefIdeal.τ).loc Cert.HeadRefIdeal.main_arg16) = m' ((c.tc : Thread Cert.HeadRefIdeal.nD Cert.HeadRefIdeal.τ).loc Cert.HeadRefIdeal.main_arg16)
          ∧ r.2.mem ((c.tc : Thread Cert.HeadRefIdeal.nD Cert.HeadRefIdeal.τ).loc Cert.HeadRefIdeal.main_arg17) = m' ((c.tc : Thread Cert.HeadRefIdeal.nD Cert.HeadRefIdeal.τ).loc Cert.HeadRefIdeal.main_arg17)
          ∧ r.2.mem ((c.tc : Thread Cert.HeadRefIdeal.nD Cert.HeadRefIdeal.τ).loc Cert.HeadRefIdeal.main_arg18) = m' ((c.tc : Thread Cert.HeadRefIdeal.nD Cert.HeadRefIdeal.τ).loc Cert.HeadRefIdeal.main_arg18)
          ∧ r.2.mem ((c.tc : Thread Cert.HeadRefIdeal.nD Cert.HeadRefIdeal.τ).loc Cert.HeadRefIdeal.main_arg19) = m' ((c.tc : Thread Cert.HeadRefIdeal.nD Cert.HeadRefIdeal.τ).loc Cert.HeadRefIdeal.main_arg19)
          ∧ r.2.mem ((c.tc : Thread Cert.HeadRefIdeal.nD Cert.HeadRefIdeal.τ).loc Cert.HeadRefIdeal.main_arg20) = m' ((c.tc : Thread Cert.HeadRefIdeal.nD Cert.HeadRefIdeal.τ).loc Cert.HeadRefIdeal.main_arg20)
          ∧ r.2.mem ((c.tc : Thread Cert.HeadRefIdeal.nD Cert.HeadRefIdeal.τ).loc Cert.HeadRefIdeal.main_arg21) = m' ((c.tc : Thread Cert.HeadRefIdeal.nD Cert.HeadRefIdeal.τ).loc Cert.HeadRefIdeal.main_arg21)
          ∧ r.2.mem ((c.tc : Thread Cert.HeadRefIdeal.nD Cert.HeadRefIdeal.τ).loc Cert.HeadRefIdeal.main_arg22) = m' ((c.tc : Thread Cert.HeadRefIdeal.nD Cert.HeadRefIdeal.τ).loc Cert.HeadRefIdeal.main_arg22)
          ∧ r.2.mem ((c.tc : Thread Cert.HeadRefIdeal.nD Cert.HeadRefIdeal.τ).loc Cert.HeadRefIdeal.main_arg23) = m' ((c.tc : Thread Cert.HeadRefIdeal.nD Cert.HeadRefIdeal.τ).loc Cert.HeadRefIdeal.main_arg23))

def Claim : Prop :=
  ∃ (hScore : Cert.Score.Facts) (hScoreIdeal : Cert.ScoreIdeal.Facts) (hScoreRefIdeal : Cert.ScoreRefIdeal.Facts) (hHead : Cert.Head.Facts) (hHeadIdeal : Cert.HeadIdeal.Facts) (hHeadRefIdeal : Cert.HeadRefIdeal.Facts),
    quiescent_Score (hScore := hScore)
    ∧ quiescent_ScoreIdeal (hScoreIdeal := hScoreIdeal)
    ∧ quiescent_ScoreRefIdeal (hScoreRefIdeal := hScoreRefIdeal)
    ∧ quiescent_Head (hHead := hHead)
    ∧ quiescent_HeadIdeal (hHeadIdeal := hHeadIdeal)
    ∧ quiescent_HeadRefIdeal (hHeadRefIdeal := hHeadRefIdeal)
    ∧ preserves_Score_ScoreIdeal
    ∧ algebraic_ScoreIdeal_ScoreRefIdeal (hScoreIdeal := hScoreIdeal) (hScoreRefIdeal := hScoreRefIdeal)
    ∧ preserves_Head_HeadIdeal
    ∧ algebraic_HeadIdeal_HeadRefIdeal (hHeadIdeal := hHeadIdeal) (hHeadRefIdeal := hHeadRefIdeal)
-- ==== Score.lean ====
abbrev S1x256x64x64 : Shape := ⟨4, ![1, 256, 64, 64]⟩
abbrev S128x256x1x1 : Shape := ⟨4, ![128, 256, 1, 1]⟩
abbrev S128 : Shape := ⟨1, ![128]⟩
abbrev S256x64x64 : Shape := ⟨3, ![256, 64, 64]⟩
abbrev S256x4096 : Shape := ⟨2, ![256, 4096]⟩
abbrev S_ : Shape := ⟨0, ![]⟩
abbrev S8x4096 : Shape := ⟨2, ![8, 4096]⟩
abbrev S264x4096 : Shape := ⟨2, ![264, 4096]⟩
abbrev S4096x264 : Shape := ⟨2, ![4096, 264]⟩
abbrev S128x256 : Shape := ⟨2, ![128, 256]⟩
abbrev S128x1 : Shape := ⟨2, ![128, 1]⟩
abbrev S1x128x1x1 : Shape := ⟨4, ![1, 128, 1, 1]⟩
abbrev S1x128x8x1 : Shape := ⟨4, ![1, 128, 8, 1]⟩
abbrev S128x8 : Shape := ⟨2, ![128, 8]⟩
abbrev S128x264 : Shape := ⟨2, ![128, 264]⟩
abbrev S264x128 : Shape := ⟨2, ![264, 128]⟩
abbrev S4096x64x64 : Shape := ⟨3, ![4096, 64, 64]⟩
abbrev S256x264 : Shape := ⟨2, ![256, 264]⟩
abbrev S128x4096 : Shape := ⟨2, ![128, 4096]⟩
abbrev S256x128 : Shape := ⟨2, ![256, 128]⟩
abbrev S128x128 : Shape := ⟨2, ![128, 128]⟩
abbrev S256x64 : Shape := ⟨2, ![256, 64]⟩
abbrev S16384x64 : Shape := ⟨2, ![16384, 64]⟩
abbrev S64x256x64 : Shape := ⟨3, ![64, 256, 64]⟩

abbrev nBuf : Space → Nat
  | .hbm => 40
  | .vmem => 8
  | .smem => 0
  | _ => 0

abbrev bufTy : (tb : Table) → Fin (tcTables nBuf tb) → BufTy
  | .hbm, ⟨0, _⟩ => ⟨S1x256x64x64, .f32⟩
  | .hbm, ⟨1, _⟩ => ⟨S128x256x1x1, .f32⟩
  | .hbm, ⟨2, _⟩ => ⟨S128, .f32⟩
  | .hbm, ⟨3, _⟩ => ⟨S128x256x1x1, .f32⟩
  | .hbm, ⟨4, _⟩ => ⟨S128, .f32⟩
  | .hbm, ⟨5, _⟩ => ⟨S256x64x64, .f32⟩
  | .hbm, ⟨6, _⟩ => ⟨S256x4096, .f32⟩
  | .hbm, ⟨7, _⟩ => ⟨S_, .f32⟩
  | .hbm, ⟨8, _⟩ => ⟨S8x4096, .f32⟩
  | .hbm, ⟨9, _⟩ => ⟨S264x4096, .f32⟩
  | .hbm, ⟨10, _⟩ => ⟨S264x4096, .bf16⟩
  | .hbm, ⟨11, _⟩ => ⟨S4096x264, .bf16⟩
  | .hbm, ⟨12, _⟩ => ⟨S128x256, .f32⟩
  | .hbm, ⟨13, _⟩ => ⟨S128x256, .f32⟩
  | .hbm, ⟨14, _⟩ => ⟨S_, .f32⟩
  | .hbm, ⟨15, _⟩ => ⟨S128x256, .f32⟩
  | .hbm, ⟨16, _⟩ => ⟨S128x256, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S_, .f32⟩
  | .hbm, ⟨21, _⟩ => ⟨S128, .f32⟩
  | .hbm, ⟨22, _⟩ => ⟨S128, .f32⟩
  | .hbm, ⟨23, _⟩ => ⟨S128x1, .f32⟩
  | .hbm, ⟨24, _⟩ => ⟨S1x128x1x1, .f32⟩
  | .hbm, ⟨25, _⟩ => ⟨S1x128x8x1, .f32⟩
  | .hbm, ⟨26, _⟩ => ⟨S128x8, .f32⟩
  | .hbm, ⟨27, _⟩ => ⟨S128x264, .f32⟩
  | .hbm, ⟨28, _⟩ => ⟨S128x264, .bf16⟩
  | .hbm, ⟨29, _⟩ => ⟨S_, .f32⟩
  | .hbm, ⟨30, _⟩ => ⟨S128, .f32⟩
  | .hbm, ⟨31, _⟩ => ⟨S128, .f32⟩
  | .hbm, ⟨32, _⟩ => ⟨S128x1, .f32⟩
  | .hbm, ⟨33, _⟩ => ⟨S1x128x1x1, .f32⟩
  | .hbm, ⟨34, _⟩ => ⟨S1x128x8x1, .f32⟩
  | .hbm, ⟨35, _⟩ => ⟨S128x8, .f32⟩
  | .hbm, ⟨36, _⟩ => ⟨S128x264, .f32⟩
  | .hbm, ⟨37, _⟩ => ⟨S128x264, .bf16⟩
  | .hbm, ⟨38, _⟩ => ⟨S264x128, .bf16⟩
  | .hbm, ⟨39, _⟩ => ⟨S4096x64x64, .f32⟩
  | .local _ .vmem, ⟨0, _⟩ => ⟨S264x4096, .bf16⟩
  | .local _ .vmem, ⟨1, _⟩ => ⟨S128x264, .bf16⟩
  | .local _ .vmem, ⟨2, _⟩ => ⟨S256x264, .bf16⟩
  | .local _ .vmem, ⟨3, _⟩ => ⟨S256x264, .bf16⟩
  | .local _ .vmem, ⟨4, _⟩ => ⟨S264x128, .bf16⟩
  | .local _ .vmem, ⟨5, _⟩ => ⟨S256x64x64, .f32⟩
  | .local _ .vmem, ⟨6, _⟩ => ⟨S256x64x64, .f32⟩
  | .local _ .vmem, ⟨7, _⟩ => ⟨S128x4096, .bf16⟩
  | _, _ => ⟨S1x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 1 → Memref sig .tc .vmem S264x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x264 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x264 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S264x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ScoreRefIdeal.lean ====
abbrev S1x256x64x64 : Shape := ⟨4, ![1, 256, 64, 64]⟩
abbrev S128x256x1x1 : Shape := ⟨4, ![128, 256, 1, 1]⟩
abbrev S128 : Shape := ⟨1, ![128]⟩
abbrev S256x64x64 : Shape := ⟨3, ![256, 64, 64]⟩
abbrev S256x4096 : Shape := ⟨2, ![256, 4096]⟩
abbrev S128x256 : Shape := ⟨2, ![128, 256]⟩
abbrev S128x4096 : Shape := ⟨2, ![128, 4096]⟩
abbrev S128x1 : Shape := ⟨2, ![128, 1]⟩
abbrev S4096x128 : Shape := ⟨2, ![4096, 128]⟩
abbrev S4096x4096 : Shape := ⟨2, ![4096, 4096]⟩
abbrev S_ : Shape := ⟨0, ![]⟩
abbrev S4096x64x64 : Shape := ⟨3, ![4096, 64, 64]⟩

abbrev nBuf : Space → Nat
  | .hbm => 31
  | .vmem => 0
  | .smem => 0
  | _ => 0

abbrev bufTy : (tb : Table) → Fin (tcTables nBuf tb) → BufTy
  | .hbm, ⟨0, _⟩ => ⟨S1x256x64x64, .f32⟩
  | .hbm, ⟨1, _⟩ => ⟨S128x256x1x1, .f32⟩
  | .hbm, ⟨2, _⟩ => ⟨S128, .f32⟩
  | .hbm, ⟨3, _⟩ => ⟨S128x256x1x1, .f32⟩
  | .hbm, ⟨4, _⟩ => ⟨S128, .f32⟩
  | .hbm, ⟨5, _⟩ => ⟨S256x64x64, .f32⟩
  | .hbm, ⟨6, _⟩ => ⟨S256x4096, .f32⟩
  | .hbm, ⟨7, _⟩ => ⟨S128x256, .f32⟩
  | .hbm, ⟨8, _⟩ => ⟨S128x4096, .f32⟩
  | .hbm, ⟨9, _⟩ => ⟨S128x1, .f32⟩
  | .hbm, ⟨10, _⟩ => ⟨S128x4096, .f32⟩
  | .hbm, ⟨11, _⟩ => ⟨S128x4096, .f32⟩
  | .hbm, ⟨12, _⟩ => ⟨S128x256, .f32⟩
  | .hbm, ⟨13, _⟩ => ⟨S128x4096, .f32⟩
  | .hbm, ⟨14, _⟩ => ⟨S128x1, .f32⟩
  | .hbm, ⟨15, _⟩ => ⟨S128x4096, .f32⟩
  | .hbm, ⟨16, _⟩ => ⟨S128x4096, .f32⟩
  | .hbm, ⟨17, _⟩ => ⟨S4096x128, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S4096x64x64, .f32⟩
  | _, _ => ⟨S1x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Head.lean ====
abbrev S1x256x64x64 : Shape := ⟨4, ![1, 256, 64, 64]⟩
abbrev S512x256x3x3 : Shape := ⟨4, ![512, 256, 3, 3]⟩
abbrev S512 : Shape := ⟨1, ![512]⟩
abbrev S512x512x3x3 : Shape := ⟨4, ![512, 512, 3, 3]⟩
abbrev S512x256x1x1 : Shape := ⟨4, ![512, 256, 1, 1]⟩
abbrev S2x512 : Shape := ⟨2, ![2, 512]⟩
abbrev S2 : Shape := ⟨1, ![2]⟩
abbrev S256x64x64 : Shape := ⟨3, ![256, 64, 64]⟩
abbrev S256x4096 : Shape := ⟨2, ![256, 4096]⟩
abbrev S_ : Shape := ⟨0, ![]⟩
abbrev S8x4096 : Shape := ⟨2, ![8, 4096]⟩
abbrev S264x4096 : Shape := ⟨2, ![264, 4096]⟩
abbrev S4096x264 : Shape := ⟨2, ![4096, 264]⟩
abbrev S64x64x264 : Shape := ⟨3, ![64, 64, 264]⟩
abbrev S512x256 : Shape := ⟨2, ![512, 256]⟩
abbrev S512x264 : Shape := ⟨2, ![512, 264]⟩
abbrev S131072x9 : Shape := ⟨2, ![131072, 9]⟩
abbrev S9x131072 : Shape := ⟨2, ![9, 131072]⟩
abbrev S9x512x256 : Shape := ⟨3, ![9, 512, 256]⟩
abbrev S9x512x264 : Shape := ⟨3, ![9, 512, 264]⟩
abbrev S262144x9 : Shape := ⟨2, ![262144, 9]⟩
abbrev S9x262144 : Shape := ⟨2, ![9, 262144]⟩
abbrev S9x512x512 : Shape := ⟨3, ![9, 512, 512]⟩
abbrev S1x512 : Shape := ⟨2, ![1, 512]⟩
abbrev S34x34x512 : Shape := ⟨3, ![34, 34, 512]⟩
abbrev S4x33x33x264 : Shape := ⟨4, ![4, 33, 33, 264]⟩
abbrev S32x2x64x264 : Shape := ⟨4, ![32, 2, 64, 264]⟩
abbrev S32x1x64x264 : Shape := ⟨4, ![32, 1, 64, 264]⟩
abbrev S32x64x264 : Shape := ⟨3, ![32, 64, 264]⟩
abbrev S32x32x2x264 : Shape := ⟨4, ![32, 32, 2, 264]⟩
abbrev S32x32x1x264 : Shape := ⟨4, ![32, 32, 1, 264]⟩
abbrev S32x32x264 : Shape := ⟨3, ![32, 32, 264]⟩
abbrev S32x1x264 : Shape := ⟨3, ![32, 1, 264]⟩
abbrev S32x33x264 : Shape := ⟨3, ![32, 33, 264]⟩
abbrev S1x32x33x264 : Shape := ⟨4, ![1, 32, 33, 264]⟩
abbrev S1x32x32x264 : Shape := ⟨4, ![1, 32, 32, 264]⟩
abbrev S1024x264 : Shape := ⟨2, ![1024, 264]⟩
abbrev S1x512x264 : Shape := ⟨3, ![1, 512, 264]⟩
abbrev S1024x512 : Shape := ⟨2, ![1024, 512]⟩
abbrev S32x32x512 : Shape := ⟨3, ![32, 32, 512]⟩
abbrev S1x512x512 : Shape := ⟨3, ![1, 512, 512]⟩
abbrev S512x512 : Shape := ⟨2, ![512, 512]⟩
abbrev S512x2 : Shape := ⟨2, ![512, 2]⟩
abbrev S512x128 : Shape := ⟨2, ![512, 128]⟩
abbrev S1x2 : Shape := ⟨2, ![1, 2]⟩
abbrev S1x128 : Shape := ⟨2, ![1, 128]⟩
abbrev S1 : Shape := ⟨1, ![1]⟩
abbrev S1x1 : Shape := ⟨2, ![1, 1]⟩

abbrev nBuf : Space → Nat
  | .hbm => 91
  | .vmem => 33
  | .smem => 0
  | _ => 0

abbrev bufTy : (tb : Table) → Fin (tcTables nBuf tb) → BufTy
  | .hbm, ⟨0, _⟩ => ⟨S1x256x64x64, .f32⟩
  | .hbm, ⟨1, _⟩ => ⟨S512x256x3x3, .f32⟩
  | .hbm, ⟨2, _⟩ => ⟨S512, .f32⟩
  | .hbm, ⟨3, _⟩ => ⟨S512, .f32⟩
  | .hbm, ⟨4, _⟩ => ⟨S512x512x3x3, .f32⟩
  | .hbm, ⟨5, _⟩ => ⟨S512, .f32⟩
  | .hbm, ⟨6, _⟩ => ⟨S512, .f32⟩
  | .hbm, ⟨7, _⟩ => ⟨S512x256x1x1, .f32⟩
  | .hbm, ⟨8, _⟩ => ⟨S512, .f32⟩
  | .hbm, ⟨9, _⟩ => ⟨S512, .f32⟩
  | .hbm, ⟨10, _⟩ => ⟨S512x512x3x3, .f32⟩
  | .hbm, ⟨11, _⟩ => ⟨S512, .f32⟩
  | .hbm, ⟨12, _⟩ => ⟨S512, .f32⟩
  | .hbm, ⟨13, _⟩ => ⟨S512x512x3x3, .f32⟩
  | .hbm, ⟨14, _⟩ => ⟨S512, .f32⟩
  | .hbm, ⟨15, _⟩ => ⟨S512, .f32⟩
  | .hbm, ⟨16, _⟩ => ⟨S512x512x3x3, .f32⟩
  | .hbm, ⟨17, _⟩ => ⟨S512, .f32⟩
  | .hbm, ⟨18, _⟩ => ⟨S512, .f32⟩
  | .hbm, ⟨19, _⟩ => ⟨S512x512x3x3, .f32⟩
  | .hbm, ⟨20, _⟩ => ⟨S512, .f32⟩
  | .hbm, ⟨21, _⟩ => ⟨S512, .f32⟩
  | .hbm, ⟨22, _⟩ => ⟨S2x512, .f32⟩
  | .hbm, ⟨23, _⟩ => ⟨S2, .f32⟩
  | .hbm, ⟨24, _⟩ => ⟨S256x64x64, .f32⟩
  | .hbm, ⟨25, _⟩ => ⟨S256x4096, .f32⟩
  | .hbm, ⟨26, _⟩ => ⟨S_, .f32⟩
  | .hbm, ⟨27, _⟩ => ⟨S8x4096, .f32⟩
  | .hbm, ⟨28, _⟩ => ⟨S264x4096, .f32⟩
  | .hbm, ⟨29, _⟩ => ⟨S264x4096, .bf16⟩
  | .hbm, ⟨30, _⟩ => ⟨S4096x264, .bf16⟩
  | .hbm, ⟨31, _⟩ => ⟨S64x64x264, .bf16⟩
  | .hbm, ⟨32, _⟩ => ⟨S512x256, .f32⟩
  | .hbm, ⟨33, _⟩ => ⟨S512x256, .bf16⟩
  | .hbm, ⟨34, _⟩ => ⟨S_, .i32⟩
  | .hbm, ⟨35, _⟩ => ⟨S_, .bf16⟩
  | .hbm, ⟨36, _⟩ => ⟨S512x264, .bf16⟩
  | .hbm, ⟨37, _⟩ => ⟨S512x256x3x3, .bf16⟩
  | .hbm, ⟨38, _⟩ => ⟨S131072x9, .bf16⟩
  | .hbm, ⟨39, _⟩ => ⟨S9x131072, .bf16⟩
  | .hbm, ⟨40, _⟩ => ⟨S9x512x256, .bf16⟩
  | .hbm, ⟨41, _⟩ => ⟨S_, .i32⟩
  | .hbm, ⟨42, _⟩ => ⟨S_, .bf16⟩
  | .hbm, ⟨43, _⟩ => ⟨S9x512x264, .bf16⟩
  | .hbm, ⟨44, _⟩ => ⟨S512x512x3x3, .bf16⟩
  | .hbm, ⟨45, _⟩ => ⟨S262144x9, .bf16⟩
  | .hbm, ⟨46, _⟩ => ⟨S9x262144, .bf16⟩
  | .hbm, ⟨47, _⟩ => ⟨S9x512x512, .bf16⟩
  | .hbm, ⟨48, _⟩ => ⟨S1x512, .f32⟩
  | .hbm, ⟨49, _⟩ => ⟨S1x512, .f32⟩
  | .hbm, ⟨50, _⟩ => ⟨S1x512, .f32⟩
  | .hbm, ⟨51, _⟩ => ⟨S1x512, .f32⟩
  | .hbm, ⟨52, _⟩ => ⟨S1x512, .f32⟩
  | .hbm, ⟨53, _⟩ => ⟨S1x512, .f32⟩
  | .hbm, ⟨54, _⟩ => ⟨S34x34x512, .f32⟩
  | .hbm, ⟨55, _⟩ => ⟨S512x512x3x3, .bf16⟩
  | .hbm, ⟨56, _⟩ => ⟨S262144x9, .bf16⟩
  | .hbm, ⟨57, _⟩ => ⟨S9x262144, .bf16⟩
  | .hbm, ⟨58, _⟩ => ⟨S9x512x512, .bf16⟩
  | .hbm, ⟨59, _⟩ => ⟨S512x512x3x3, .bf16⟩
  | .hbm, ⟨60, _⟩ => ⟨S262144x9, .bf16⟩
  | .hbm, ⟨61, _⟩ => ⟨S9x262144, .bf16⟩
  | .hbm, ⟨62, _⟩ => ⟨S9x512x512, .bf16⟩
  | .hbm, ⟨63, _⟩ => ⟨S1x512, .f32⟩
  | .hbm, ⟨64, _⟩ => ⟨S1x512, .f32⟩
  | .hbm, ⟨65, _⟩ => ⟨S1x512, .f32⟩
  | .hbm, ⟨66, _⟩ => ⟨S1x512, .f32⟩
  | .hbm, ⟨67, _⟩ => ⟨S34x34x512, .f32⟩
  | .hbm, ⟨68, _⟩ => ⟨S512x2, .f32⟩
  | .hbm, ⟨69, _⟩ => ⟨S_, .i32⟩
  | .hbm, ⟨70, _⟩ => ⟨S_, .f32⟩
  | .hbm, ⟨71, _⟩ => ⟨S512x128, .f32⟩
  | .hbm, ⟨72, _⟩ => ⟨S1x2, .f32⟩
  | .hbm, ⟨73, _⟩ => ⟨S_, .i32⟩
  | .hbm, ⟨74, _⟩ => ⟨S_, .f32⟩
  | .hbm, ⟨75, _⟩ => ⟨S1x128, .f32⟩
  | .hbm, ⟨76, _⟩ => ⟨S512x512x3x3, .bf16⟩
  | .hbm, ⟨77, _⟩ => ⟨S262144x9, .bf16⟩
  | .hbm, ⟨78, _⟩ => ⟨S9x262144, .bf16⟩
  | .hbm, ⟨79, _⟩ => ⟨S9x512x512, .bf16⟩
  | .hbm, ⟨80, _⟩ => ⟨S512x512x3x3, .bf16⟩
  | .hbm, ⟨81, _⟩ => ⟨S262144x9, .bf16⟩
  | .hbm, ⟨82, _⟩ => ⟨S9x262144, .bf16⟩
  | .hbm, ⟨83, _⟩ => ⟨S9x512x512, .bf16⟩
  | .hbm, ⟨84, _⟩ => ⟨S1x512, .f32⟩
  | .hbm, ⟨85, _⟩ => ⟨S1x512, .f32⟩
  | .hbm, ⟨86, _⟩ => ⟨S1x512, .f32⟩
  | .hbm, ⟨87, _⟩ => ⟨S1x512, .f32⟩
  | .hbm, ⟨88, _⟩ => ⟨S1x128, .f32⟩
  | .hbm, ⟨89, _⟩ => ⟨S1x2, .f32⟩
  | .hbm, ⟨90, _⟩ => ⟨S2, .f32⟩
  | .local _ .vmem, ⟨0, _⟩ => ⟨S64x64x264, .bf16⟩
  | .local _ .vmem, ⟨1, _⟩ => ⟨S9x512x264, .bf16⟩
  | .local _ .vmem, ⟨2, _⟩ => ⟨S9x512x512, .bf16⟩
  | .local _ .vmem, ⟨3, _⟩ => ⟨S512x264, .bf16⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S34x34x512, .f32⟩
  | .local _ .vmem, ⟨11, _⟩ => ⟨S34x34x512, .f32⟩
  | .local _ .vmem, ⟨12, _⟩ => ⟨S4x33x33x264, .bf16⟩
  | .local _ .vmem, ⟨13, _⟩ => ⟨S34x34x512, .f32⟩
  | .local _ .vmem, ⟨14, _⟩ => ⟨S9x512x512, .bf16⟩
  | .local _ .vmem, ⟨15, _⟩ => ⟨S9x512x512, .bf16⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S34x34x512, .f32⟩
  | .local _ .vmem, ⟨21, _⟩ => ⟨S34x34x512, .f32⟩
  | .local _ .vmem, ⟨22, _⟩ => ⟨S34x34x512, .f32⟩
  | .local _ .vmem, ⟨23, _⟩ => ⟨S9x512x512, .bf16⟩
  | .local _ .vmem, ⟨24, _⟩ => ⟨S9x512x512, .bf16⟩
  | .local _ .vmem, ⟨25, _⟩ => ⟨S1x512, .f32⟩
  | .local _ .vmem, ⟨26, _⟩ => ⟨S1x512, .f32⟩
  | .local _ .vmem, ⟨27, _⟩ => ⟨S1x512, .f32⟩
  | .local _ .vmem, ⟨28, _⟩ => ⟨S1x512, .f32⟩
  | .local _ .vmem, ⟨29, _⟩ => ⟨S512x128, .f32⟩
  | .local _ .vmem, ⟨30, _⟩ => ⟨S1x128, .f32⟩
  | .local _ .vmem, ⟨31, _⟩ => ⟨S1x128, .f32⟩
  | .local _ .vmem, ⟨32, _⟩ => ⟨S34x34x512, .f32⟩
  | _, _ => ⟨S1x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_cst : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_c : Ref sig .tc := ⟨.hbm, 34, rfl⟩
abbrev main_call0_v0 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_c_0 : Ref sig .tc := ⟨.hbm, 41, rfl⟩
abbrev main_call1_v0 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_c_1 : Ref sig .tc := ⟨.hbm, 69, rfl⟩
abbrev main_call2_v0 : Ref sig .tc := ⟨.hbm, 70, rfl⟩
abbrev main_v40 : Ref sig .tc := ⟨.hbm, 71, rfl⟩
abbrev main_v41 : Ref sig .tc := ⟨.hbm, 72, rfl⟩
abbrev main_c_2 : Ref sig .tc := ⟨.hbm, 73, rfl⟩
abbrev main_call3_v0 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_scratch1 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_scratch0 : Ref sig .tc := ⟨.vmem, 21, rfl⟩
abbrev cc2_stg0_0 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg8_0 : Ref sig .tc := ⟨.vmem, 30, rfl⟩
abbrev cc2_stg9_0 : Ref sig .tc := ⟨.vmem, 31, rfl⟩
abbrev cc2_scratch0 : Ref sig .tc := ⟨.vmem, 32, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc1_sem0_0 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc2_sem0_0 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem8_0 : DmaSem sig := 27
abbrev cc2_sem9_0 : DmaSem sig := 28

abbrev nD : Nat := 1
abbrev τ : Topo := Topo.v7x

variable {F : FTy → Type} [FloatOps F]

abbrev grid0 : Pipeline.Grid := .none

abbrev stage0_0 : Fin 1 → Memref sig .tc .vmem S64x64x264 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9x512x264 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x264 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S34x34x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev grid1 : Pipeline.Grid := .none

abbrev stage1_0 : Fin 1 → Memref sig .tc .vmem S34x34x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S9x512x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S9x512x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S34x34x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev grid2 : Pipeline.Grid := .none

abbrev stage2_0 : Fin 1 → Memref sig .tc .vmem S34x34x512 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S9x512x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S9x512x512 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S1x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S1x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S512x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
-- ==== HeadIdeal.lean ====
variable {F : FTy → Type} [FloatOps F] [Named F]
def κ : String → Option EReal := fun
  | "mask" => some ⊥
  | _ => none
-- ==== HeadRefIdeal.lean ====
abbrev S1x256x64x64 : Shape := ⟨4, ![1, 256, 64, 64]⟩
abbrev S512x256x3x3 : Shape := ⟨4, ![512, 256, 3, 3]⟩
abbrev S512 : Shape := ⟨1, ![512]⟩
abbrev S512x512x3x3 : Shape := ⟨4, ![512, 512, 3, 3]⟩
abbrev S512x256x1x1 : Shape := ⟨4, ![512, 256, 1, 1]⟩
abbrev S2x512 : Shape := ⟨2, ![2, 512]⟩
abbrev S2 : Shape := ⟨1, ![2]⟩
abbrev S256x64x64 : Shape := ⟨3, ![256, 64, 64]⟩
abbrev S512x256 : Shape := ⟨2, ![512, 256]⟩
abbrev S256x32x32 : Shape := ⟨3, ![256, 32, 32]⟩
abbrev S512x32x32 : Shape := ⟨3, ![512, 32, 32]⟩
abbrev S512x1x1 : Shape := ⟨3, ![512, 1, 1]⟩
abbrev S_ : Shape := ⟨0, ![]⟩
abbrev S256x66x66 : Shape := ⟨3, ![256, 66, 66]⟩
abbrev S512x34x34 : Shape := ⟨3, ![512, 34, 34]⟩
abbrev S512x512x1x1 : Shape := ⟨4, ![512, 512, 1, 1]⟩
abbrev S512x512 : Shape := ⟨2, ![512, 512]⟩
abbrev S512x2 : Shape := ⟨2, ![512, 2]⟩
abbrev S1 : Shape := ⟨1, ![1]⟩

abbrev nBuf : Space → Nat
  | .hbm => 394
  | .vmem => 0
  | .smem => 0
  | _ => 0

abbrev hbmTy0_0 (i : Nat) : BufTy := match i % 128 with
  | 0 => ⟨S1x256x64x64, .f32⟩
  | 1 => ⟨S512x256x3x3, .f32⟩
  | 2 => ⟨S512, .f32⟩
  | 3 => ⟨S512, .f32⟩
  | 4 => ⟨S512x512x3x3, .f32⟩
  | 5 => ⟨S512, .f32⟩
  | 6 => ⟨S512, .f32⟩
  | 7 => ⟨S512x256x1x1, .f32⟩
  | 8 => ⟨S512, .f32⟩
  | 9 => ⟨S512, .f32⟩
  | 10 => ⟨S512x512x3x3, .f32⟩
  | 11 => ⟨S512, .f32⟩
  | 12 => ⟨S512, .f32⟩
  | 13 => ⟨S512x512x3x3, .f32⟩
  | 14 => ⟨S512, .f32⟩
  | 15 => ⟨S512, .f32⟩
  | 16 => ⟨S512x512x3x3, .f32⟩
  | 17 => ⟨S512, .f32⟩
  | 18 => ⟨S512, .f32⟩
  | 19 => ⟨S512x512x3x3, .f32⟩
  | 20 => ⟨S512, .f32⟩
  | 21 => ⟨S512, .f32⟩
  | 22 => ⟨S2x512, .f32⟩
  | 23 => ⟨S2, .f32⟩
  | 24 => ⟨S256x64x64, .f32⟩
  | 25 => ⟨S512x256, .f32⟩
  | 26 => ⟨S256x32x32, .f32⟩
  | 27 => ⟨S512x32x32, .f32⟩
  | 28 => ⟨S512x1x1, .f32⟩
  | 29 => ⟨S512x32x32, .f32⟩
  | 30 => ⟨S512x32x32, .f32⟩
  | 31 => ⟨S512x1x1, .f32⟩
  | 32 => ⟨S512x32x32, .f32⟩
  | 33 => ⟨S512x32x32, .f32⟩
  | 34 => ⟨S_, .i32⟩
  | 35 => ⟨S_, .f32⟩
  | 36 => ⟨S256x66x66, .f32⟩
  | 37 => ⟨S256x32x32, .f32⟩
  | 38 => ⟨S512x256x1x1, .f32⟩
  | 39 => ⟨S512x256, .f32⟩
  | 40 => ⟨S512x32x32, .f32⟩
  | 41 => ⟨S256x32x32, .f32⟩
  | 42 => ⟨S512x256x1x1, .f32⟩
  | 43 => ⟨S512x256, .f32⟩
  | 44 => ⟨S512x32x32, .f32⟩
  | 45 => ⟨S512x32x32, .f32⟩
  | 46 => ⟨S256x32x32, .f32⟩
  | 47 => ⟨S512x256x1x1, .f32⟩
  | 48 => ⟨S512x256, .f32⟩
  | 49 => ⟨S512x32x32, .f32⟩
  | 50 => ⟨S512x32x32, .f32⟩
  | 51 => ⟨S256x32x32, .f32⟩
  | 52 => ⟨S512x256x1x1, .f32⟩
  | 53 => ⟨S512x256, .f32⟩
  | 54 => ⟨S512x32x32, .f32⟩
  | 55 => ⟨S512x32x32, .f32⟩
  | 56 => ⟨S256x32x32, .f32⟩
  | 57 => ⟨S512x256x1x1, .f32⟩
  | 58 => ⟨S512x256, .f32⟩
  | 59 => ⟨S512x32x32, .f32⟩
  | 60 => ⟨S512x32x32, .f32⟩
  | 61 => ⟨S256x32x32, .f32⟩
  | 62 => ⟨S512x256x1x1, .f32⟩
  | 63 => ⟨S512x256, .f32⟩
  | 64 => ⟨S512x32x32, .f32⟩
  | 65 => ⟨S512x32x32, .f32⟩
  | 66 => ⟨S256x32x32, .f32⟩
  | 67 => ⟨S512x256x1x1, .f32⟩
  | 68 => ⟨S512x256, .f32⟩
  | 69 => ⟨S512x32x32, .f32⟩
  | 70 => ⟨S512x32x32, .f32⟩
  | 71 => ⟨S256x32x32, .f32⟩
  | 72 => ⟨S512x256x1x1, .f32⟩
  | 73 => ⟨S512x256, .f32⟩
  | 74 => ⟨S512x32x32, .f32⟩
  | 75 => ⟨S512x32x32, .f32⟩
  | 76 => ⟨S256x32x32, .f32⟩
  | 77 => ⟨S512x256x1x1, .f32⟩
  | 78 => ⟨S512x256, .f32⟩
  | 79 => ⟨S512x32x32, .f32⟩
  | 80 => ⟨S512x32x32, .f32⟩
  | 81 => ⟨S512x1x1, .f32⟩
  | 82 => ⟨S512x32x32, .f32⟩
  | 83 => ⟨S512x32x32, .f32⟩
  | 84 => ⟨S512x1x1, .f32⟩
  | 85 => ⟨S512x32x32, .f32⟩
  | 86 => ⟨S512x32x32, .f32⟩
  | 87 => ⟨S_, .f32⟩
  | 88 => ⟨S512x32x32, .f32⟩
  | 89 => ⟨S512x32x32, .f32⟩
  | 90 => ⟨S_, .i32⟩
  | 91 => ⟨S_, .f32⟩
  | 92 => ⟨S512x34x34, .f32⟩
  | 93 => ⟨S512x32x32, .f32⟩
  | 94 => ⟨S512x512x1x1, .f32⟩
  | 95 => ⟨S512x512, .f32⟩
  | 96 => ⟨S512x32x32, .f32⟩
  | 97 => ⟨S512x32x32, .f32⟩
  | 98 => ⟨S512x512x1x1, .f32⟩
  | 99 => ⟨S512x512, .f32⟩
  | 100 => ⟨S512x32x32, .f32⟩
  | 101 => ⟨S512x32x32, .f32⟩
  | 102 => ⟨S512x32x32, .f32⟩
  | 103 => ⟨S512x512x1x1, .f32⟩
  | 104 => ⟨S512x512, .f32⟩
  | 105 => ⟨S512x32x32, .f32⟩
  | 106 => ⟨S512x32x32, .f32⟩
  | 107 => ⟨S512x32x32, .f32⟩
  | 108 => ⟨S512x512x1x1, .f32⟩
  | 109 => ⟨S512x512, .f32⟩
  | 110 => ⟨S512x32x32, .f32⟩
  | 111 => ⟨S512x32x32, .f32⟩
  | 112 => ⟨S512x32x32, .f32⟩
  | 113 => ⟨S512x512x1x1, .f32⟩
  | 114 => ⟨S512x512, .f32⟩
  | 115 => ⟨S512x32x32, .f32⟩
  | 116 => ⟨S512x32x32, .f32⟩
  | 117 => ⟨S512x32x32, .f32⟩
  | 118 => ⟨S512x512x1x1, .f32⟩
  | 119 => ⟨S512x512, .f32⟩
  | 120 => ⟨S512x32x32, .f32⟩
  | 121 => ⟨S512x32x32, .f32⟩
  | 122 => ⟨S512x32x32, .f32⟩
  | 123 => ⟨S512x512x1x1, .f32⟩
  | 124 => ⟨S512x512, .f32⟩
  | 125 => ⟨S512x32x32, .f32⟩
  | 126 => ⟨S512x32x32, .f32⟩
  | 127 => ⟨S512x32x32, .f32⟩
  | _ => ⟨S1x256x64x64, .f32⟩

abbrev hbmTy0_1 (i : Nat) : BufTy := match i % 128 with
  | 0 => ⟨S512x512x1x1, .f32⟩
  | 1 => ⟨S512x512, .f32⟩
  | 2 => ⟨S512x32x32, .f32⟩
  | 3 => ⟨S512x32x32, .f32⟩
  | 4 => ⟨S512x32x32, .f32⟩
  | 5 => ⟨S512x512x1x1, .f32⟩
  | 6 => ⟨S512x512, .f32⟩
  | 7 => ⟨S512x32x32, .f32⟩
  | 8 => ⟨S512x32x32, .f32⟩
  | 9 => ⟨S512x1x1, .f32⟩
  | 10 => ⟨S512x32x32, .f32⟩
  | 11 => ⟨S512x32x32, .f32⟩
  | 12 => ⟨S512x1x1, .f32⟩
  | 13 => ⟨S512x32x32, .f32⟩
  | 14 => ⟨S512x32x32, .f32⟩
  | 15 => ⟨S512x32x32, .f32⟩
  | 16 => ⟨S_, .f32⟩
  | 17 => ⟨S512x32x32, .f32⟩
  | 18 => ⟨S512x32x32, .f32⟩
  | 19 => ⟨S_, .i32⟩
  | 20 => ⟨S_, .f32⟩
  | 21 => ⟨S512x34x34, .f32⟩
  | 22 => ⟨S512x32x32, .f32⟩
  | 23 => ⟨S512x512x1x1, .f32⟩
  | 24 => ⟨S512x512, .f32⟩
  | 25 => ⟨S512x32x32, .f32⟩
  | 26 => ⟨S512x32x32, .f32⟩
  | 27 => ⟨S512x512x1x1, .f32⟩
  | 28 => ⟨S512x512, .f32⟩
  | 29 => ⟨S512x32x32, .f32⟩
  | 30 => ⟨S512x32x32, .f32⟩
  | 31 => ⟨S512x32x32, .f32⟩
  | 32 => ⟨S512x512x1x1, .f32⟩
  | 33 => ⟨S512x512, .f32⟩
  | 34 => ⟨S512x32x32, .f32⟩
  | 35 => ⟨S512x32x32, .f32⟩
  | 36 => ⟨S512x32x32, .f32⟩
  | 37 => ⟨S512x512x1x1, .f32⟩
  | 38 => ⟨S512x512, .f32⟩
  | 39 => ⟨S512x32x32, .f32⟩
  | 40 => ⟨S512x32x32, .f32⟩
  | 41 => ⟨S512x32x32, .f32⟩
  | 42 => ⟨S512x512x1x1, .f32⟩
  | 43 => ⟨S512x512, .f32⟩
  | 44 => ⟨S512x32x32, .f32⟩
  | 45 => ⟨S512x32x32, .f32⟩
  | 46 => ⟨S512x32x32, .f32⟩
  | 47 => ⟨S512x512x1x1, .f32⟩
  | 48 => ⟨S512x512, .f32⟩
  | 49 => ⟨S512x32x32, .f32⟩
  | 50 => ⟨S512x32x32, .f32⟩
  | 51 => ⟨S512x32x32, .f32⟩
  | 52 => ⟨S512x512x1x1, .f32⟩
  | 53 => ⟨S512x512, .f32⟩
  | 54 => ⟨S512x32x32, .f32⟩
  | 55 => ⟨S512x32x32, .f32⟩
  | 56 => ⟨S512x32x32, .f32⟩
  | 57 => ⟨S512x512x1x1, .f32⟩
  | 58 => ⟨S512x512, .f32⟩
  | 59 => ⟨S512x32x32, .f32⟩
  | 60 => ⟨S512x32x32, .f32⟩
  | 61 => ⟨S512x32x32, .f32⟩
  | 62 => ⟨S512x512x1x1, .f32⟩
  | 63 => ⟨S512x512, .f32⟩
  | 64 => ⟨S512x32x32, .f32⟩
  | 65 => ⟨S512x32x32, .f32⟩
  | 66 => ⟨S512x1x1, .f32⟩
  | 67 => ⟨S512x32x32, .f32⟩
  | 68 => ⟨S512x32x32, .f32⟩
  | 69 => ⟨S512x1x1, .f32⟩
  | 70 => ⟨S512x32x32, .f32⟩
  | 71 => ⟨S512x32x32, .f32⟩
  | 72 => ⟨S_, .f32⟩
  | 73 => ⟨S512x32x32, .f32⟩
  | 74 => ⟨S512x32x32, .f32⟩
  | 75 => ⟨S_, .i32⟩
  | 76 => ⟨S_, .f32⟩
  | 77 => ⟨S512x34x34, .f32⟩
  | 78 => ⟨S512x32x32, .f32⟩
  | 79 => ⟨S512x512x1x1, .f32⟩
  | 80 => ⟨S512x512, .f32⟩
  | 81 => ⟨S512x32x32, .f32⟩
  | 82 => ⟨S512x32x32, .f32⟩
  | 83 => ⟨S512x512x1x1, .f32⟩
  | 84 => ⟨S512x512, .f32⟩
  | 85 => ⟨S512x32x32, .f32⟩
  | 86 => ⟨S512x32x32, .f32⟩
  | 87 => ⟨S512x32x32, .f32⟩
  | 88 => ⟨S512x512x1x1, .f32⟩
  | 89 => ⟨S512x512, .f32⟩
  | 90 => ⟨S512x32x32, .f32⟩
  | 91 => ⟨S512x32x32, .f32⟩
  | 92 => ⟨S512x32x32, .f32⟩
  | 93 => ⟨S512x512x1x1, .f32⟩
  | 94 => ⟨S512x512, .f32⟩
  | 95 => ⟨S512x32x32, .f32⟩
  | 96 => ⟨S512x32x32, .f32⟩
  | 97 => ⟨S512x32x32, .f32⟩
  | 98 => ⟨S512x512x1x1, .f32⟩
  | 99 => ⟨S512x512, .f32⟩
  | 100 => ⟨S512x32x32, .f32⟩
  | 101 => ⟨S512x32x32, .f32⟩
  | 102 => ⟨S512x32x32, .f32⟩
  | 103 => ⟨S512x512x1x1, .f32⟩
  | 104 => ⟨S512x512, .f32⟩
  | 105 => ⟨S512x32x32, .f32⟩
  | 106 => ⟨S512x32x32, .f32⟩
  | 107 => ⟨S512x32x32, .f32⟩
  | 108 => ⟨S512x512x1x1, .f32⟩
  | 109 => ⟨S512x512, .f32⟩
  | 110 => ⟨S512x32x32, .f32⟩
  | 111 => ⟨S512x32x32, .f32⟩
  | 112 => ⟨S512x32x32, .f32⟩
  | 113 => ⟨S512x512x1x1, .f32⟩
  | 114 => ⟨S512x512, .f32⟩
  | 115 => ⟨S512x32x32, .f32⟩
  | 116 => ⟨S512x32x32, .f32⟩
  | 117 => ⟨S512x32x32, .f32⟩
  | 118 => ⟨S512x512x1x1, .f32⟩
  | 119 => ⟨S512x512, .f32⟩
  | 120 => ⟨S512x32x32, .f32⟩
  | 121 => ⟨S512x32x32, .f32⟩
  | 122 => ⟨S512x1x1, .f32⟩
  | 123 => ⟨S512x32x32, .f32⟩
  | 124 => ⟨S512x32x32, .f32⟩
  | 125 => ⟨S512x1x1, .f32⟩
  | 126 => ⟨S512x32x32, .f32⟩
  | 127 => ⟨S512x32x32, .f32⟩
  | _ => ⟨S1x256x64x64, .f32⟩

abbrev hbmTy0_2 (i : Nat) : BufTy := match i % 128 with
  | 0 => ⟨S512x32x32, .f32⟩
  | 1 => ⟨S_, .f32⟩
  | 2 => ⟨S512x32x32, .f32⟩
  | 3 => ⟨S512x32x32, .f32⟩
  | 4 => ⟨S_, .i32⟩
  | 5 => ⟨S_, .f32⟩
  | 6 => ⟨S512x34x34, .f32⟩
  | 7 => ⟨S512x32x32, .f32⟩
  | 8 => ⟨S512x512x1x1, .f32⟩
  | 9 => ⟨S512x512, .f32⟩
  | 10 => ⟨S512x32x32, .f32⟩
  | 11 => ⟨S512x32x32, .f32⟩
  | 12 => ⟨S512x512x1x1, .f32⟩
  | 13 => ⟨S512x512, .f32⟩
  | 14 => ⟨S512x32x32, .f32⟩
  | 15 => ⟨S512x32x32, .f32⟩
  | 16 => ⟨S512x32x32, .f32⟩
  | 17 => ⟨S512x512x1x1, .f32⟩
  | 18 => ⟨S512x512, .f32⟩
  | 19 => ⟨S512x32x32, .f32⟩
  | 20 => ⟨S512x32x32, .f32⟩
  | 21 => ⟨S512x32x32, .f32⟩
  | 22 => ⟨S512x512x1x1, .f32⟩
  | 23 => ⟨S512x512, .f32⟩
  | 24 => ⟨S512x32x32, .f32⟩
  | 25 => ⟨S512x32x32, .f32⟩
  | 26 => ⟨S512x32x32, .f32⟩
  | 27 => ⟨S512x512x1x1, .f32⟩
  | 28 => ⟨S512x512, .f32⟩
  | 29 => ⟨S512x32x32, .f32⟩
  | 30 => ⟨S512x32x32, .f32⟩
  | 31 => ⟨S512x32x32, .f32⟩
  | 32 => ⟨S512x512x1x1, .f32⟩
  | 33 => ⟨S512x512, .f32⟩
  | 34 => ⟨S512x32x32, .f32⟩
  | 35 => ⟨S512x32x32, .f32⟩
  | 36 => ⟨S512x32x32, .f32⟩
  | 37 => ⟨S512x512x1x1, .f32⟩
  | 38 => ⟨S512x512, .f32⟩
  | 39 => ⟨S512x32x32, .f32⟩
  | 40 => ⟨S512x32x32, .f32⟩
  | 41 => ⟨S512x32x32, .f32⟩
  | 42 => ⟨S512x512x1x1, .f32⟩
  | 43 => ⟨S512x512, .f32⟩
  | 44 => ⟨S512x32x32, .f32⟩
  | 45 => ⟨S512x32x32, .f32⟩
  | 46 => ⟨S512x32x32, .f32⟩
  | 47 => ⟨S512x512x1x1, .f32⟩
  | 48 => ⟨S512x512, .f32⟩
  | 49 => ⟨S512x32x32, .f32⟩
  | 50 => ⟨S512x32x32, .f32⟩
  | 51 => ⟨S512x1x1, .f32⟩
  | 52 => ⟨S512x32x32, .f32⟩
  | 53 => ⟨S512x32x32, .f32⟩
  | 54 => ⟨S512x1x1, .f32⟩
  | 55 => ⟨S512x32x32, .f32⟩
  | 56 => ⟨S512x32x32, .f32⟩
  | 57 => ⟨S_, .f32⟩
  | 58 => ⟨S512x32x32, .f32⟩
  | 59 => ⟨S512x32x32, .f32⟩
  | 60 => ⟨S_, .i32⟩
  | 61 => ⟨S_, .f32⟩
  | 62 => ⟨S512x34x34, .f32⟩
  | 63 => ⟨S512x32x32, .f32⟩
  | 64 => ⟨S512x512x1x1, .f32⟩
  | 65 => ⟨S512x512, .f32⟩
  | 66 => ⟨S512x32x32, .f32⟩
  | 67 => ⟨S512x32x32, .f32⟩
  | 68 => ⟨S512x512x1x1, .f32⟩
  | 69 => ⟨S512x512, .f32⟩
  | 70 => ⟨S512x32x32, .f32⟩
  | 71 => ⟨S512x32x32, .f32⟩
  | 72 => ⟨S512x32x32, .f32⟩
  | 73 => ⟨S512x512x1x1, .f32⟩
  | 74 => ⟨S512x512, .f32⟩
  | 75 => ⟨S512x32x32, .f32⟩
  | 76 => ⟨S512x32x32, .f32⟩
  | 77 => ⟨S512x32x32, .f32⟩
  | 78 => ⟨S512x512x1x1, .f32⟩
  | 79 => ⟨S512x512, .f32⟩
  | 80 => ⟨S512x32x32, .f32⟩
  | 81 => ⟨S512x32x32, .f32⟩
  | 82 => ⟨S512x32x32, .f32⟩
  | 83 => ⟨S512x512x1x1, .f32⟩
  | 84 => ⟨S512x512, .f32⟩
  | 85 => ⟨S512x32x32, .f32⟩
  | 86 => ⟨S512x32x32, .f32⟩
  | 87 => ⟨S512x32x32, .f32⟩
  | 88 => ⟨S512x512x1x1, .f32⟩
  | 89 => ⟨S512x512, .f32⟩
  | 90 => ⟨S512x32x32, .f32⟩
  | 91 => ⟨S512x32x32, .f32⟩
  | 92 => ⟨S512x32x32, .f32⟩
  | 93 => ⟨S512x512x1x1, .f32⟩
  | 94 => ⟨S512x512, .f32⟩
  | 95 => ⟨S512x32x32, .f32⟩
  | 96 => ⟨S512x32x32, .f32⟩
  | 97 => ⟨S512x32x32, .f32⟩
  | 98 => ⟨S512x512x1x1, .f32⟩
  | 99 => ⟨S512x512, .f32⟩
  | 100 => ⟨S512x32x32, .f32⟩
  | 101 => ⟨S512x32x32, .f32⟩
  | 102 => ⟨S512x32x32, .f32⟩
  | 103 => ⟨S512x512x1x1, .f32⟩
  | 104 => ⟨S512x512, .f32⟩
  | 105 => ⟨S512x32x32, .f32⟩
  | 106 => ⟨S512x32x32, .f32⟩
  | 107 => ⟨S512x1x1, .f32⟩
  | 108 => ⟨S512x32x32, .f32⟩
  | 109 => ⟨S512x32x32, .f32⟩
  | 110 => ⟨S512x1x1, .f32⟩
  | 111 => ⟨S512x32x32, .f32⟩
  | 112 => ⟨S512x32x32, .f32⟩
  | 113 => ⟨S512x32x32, .f32⟩
  | 114 => ⟨S_, .f32⟩
  | 115 => ⟨S512x32x32, .f32⟩
  | 116 => ⟨S512x32x32, .f32⟩
  | 117 => ⟨S_, .f32⟩
  | 118 => ⟨S512, .f32⟩
  | 119 => ⟨S_, .f32⟩
  | 120 => ⟨S512, .f32⟩
  | 121 => ⟨S512, .f32⟩
  | 122 => ⟨S512x2, .f32⟩
  | 123 => ⟨S2, .f32⟩
  | 124 => ⟨S2, .f32⟩
  | 125 => ⟨S_, .f32⟩
  | 126 => ⟨S_, .f32⟩
  | 127 => ⟨S_, .f32⟩
  | _ => ⟨S1x256x64x64, .f32⟩

abbrev hbmTy0_3 (i : Nat) : BufTy := match i % 128 with
  | 0 => ⟨S_, .f32⟩
  | 1 => ⟨S1, .f32⟩
  | 2 => ⟨S2, .f32⟩
  | 3 => ⟨S2, .f32⟩
  | 4 => ⟨S2, .f32⟩
  | 5 => ⟨S_, .f32⟩
  | 6 => ⟨S_, .f32⟩
  | 7 => ⟨S1, .f32⟩
  | 8 => ⟨S2, .f32⟩
  | 9 => ⟨S2, .f32⟩
  | _ => ⟨S1x256x64x64, .f32⟩

abbrev hbmTy (i : Nat) : BufTy := match i / 128 with
  | 0 => hbmTy0_0 i
  | 1 => hbmTy0_1 i
  | 2 => hbmTy0_2 i
  | 3 => hbmTy0_3 i
  | _ => ⟨S1x256x64x64, .f32⟩

abbrev bufTy : (tb : Table) → Fin (tcTables nBuf tb) → BufTy
  | .hbm, ⟨i, _⟩ => hbmTy i
  | _, _ => ⟨S1x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_c : Ref sig .tc := ⟨.hbm, 34, rfl⟩
abbrev main_call0_v0 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst : Ref sig .tc := ⟨.hbm, 87, rfl⟩
abbrev main_v61 : Ref sig .tc := ⟨.hbm, 88, rfl⟩
abbrev main_v62 : Ref sig .tc := ⟨.hbm, 89, rfl⟩
abbrev main_c_0 : Ref sig .tc := ⟨.hbm, 90, rfl⟩
abbrev main_call1_v0 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_cst_1 : Ref sig .tc := ⟨.hbm, 144, rfl⟩
abbrev main_v115 : Ref sig .tc := ⟨.hbm, 145, rfl⟩
abbrev main_v116 : Ref sig .tc := ⟨.hbm, 146, rfl⟩
abbrev main_c_2 : Ref sig .tc := ⟨.hbm, 147, rfl⟩
abbrev main_call2_v0 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_cst_3 : Ref sig .tc := ⟨.hbm, 200, rfl⟩
abbrev main_v168 : Ref sig .tc := ⟨.hbm, 201, rfl⟩
abbrev main_v169 : Ref sig .tc := ⟨.hbm, 202, rfl⟩
abbrev main_c_4 : Ref sig .tc := ⟨.hbm, 203, rfl⟩
abbrev main_call3_v0 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_v189 : Ref sig .tc := ⟨.hbm, 224, rfl⟩
abbrev main_v190 : Ref sig .tc := ⟨.hbm, 225, rfl⟩
abbrev main_v191 : Ref sig .tc := ⟨.hbm, 226, rfl⟩
abbrev main_v192 : Ref sig .tc := ⟨.hbm, 227, rfl⟩
abbrev main_v193 : Ref sig .tc := ⟨.hbm, 228, rfl⟩
abbrev main_v194 : Ref sig .tc := ⟨.hbm, 229, rfl⟩
abbrev main_v195 : Ref sig .tc := ⟨.hbm, 230, rfl⟩
abbrev main_v196 : Ref sig .tc := ⟨.hbm, 231, rfl⟩
abbrev main_v197 : Ref sig .tc := ⟨.hbm, 232, rfl⟩
abbrev main_v198 : Ref sig .tc := ⟨.hbm, 233, rfl⟩
abbrev main_v199 : Ref sig .tc := ⟨.hbm, 234, rfl⟩
abbrev main_v200 : Ref sig .tc := ⟨.hbm, 235, rfl⟩
abbrev main_v201 : Ref sig .tc := ⟨.hbm, 236, rfl⟩
abbrev main_v202 : Ref sig .tc := ⟨.hbm, 237, rfl⟩
abbrev main_v203 : Ref sig .tc := ⟨.hbm, 238, rfl⟩
abbrev main_v204 : Ref sig .tc := ⟨.hbm, 239, rfl⟩
abbrev main_v205 : Ref sig .tc := ⟨.hbm, 240, rfl⟩
abbrev main_v206 : Ref sig .tc := ⟨.hbm, 241, rfl⟩
abbrev main_v207 : Ref sig .tc := ⟨.hbm, 242, rfl⟩
abbrev main_v208 : Ref sig .tc := ⟨.hbm, 243, rfl⟩
abbrev main_v209 : Ref sig .tc := ⟨.hbm, 244, rfl⟩
abbrev main_v210 : Ref sig .tc := ⟨.hbm, 245, rfl⟩
abbrev main_v211 : Ref sig .tc := ⟨.hbm, 246, rfl⟩
abbrev main_v212 : Ref sig .tc := ⟨.hbm, 247, rfl⟩
abbrev main_v213 : Ref sig .tc := ⟨.hbm, 248, rfl⟩
abbrev main_v214 : Ref sig .tc := ⟨.hbm, 249, rfl⟩
abbrev main_v215 : Ref sig .tc := ⟨.hbm, 250, rfl⟩
abbrev main_v216 : Ref sig .tc := ⟨.hbm, 251, rfl⟩
abbrev main_v217 : Ref sig .tc := ⟨.hbm, 252, rfl⟩
abbrev main_v218 : Ref sig .tc := ⟨.hbm, 253, rfl⟩
abbrev main_v219 : Ref sig .tc := ⟨.hbm, 254, rfl⟩
abbrev main_v220 : Ref sig .tc := ⟨.hbm, 255, rfl⟩
abbrev main_v221 : Ref sig .tc := ⟨.hbm, 256, rfl⟩
abbrev main_cst_5 : Ref sig .tc := ⟨.hbm, 257, rfl⟩
abbrev main_v222 : Ref sig .tc := ⟨.hbm, 258, rfl⟩
abbrev main_v223 : Ref sig .tc := ⟨.hbm, 259, rfl⟩
abbrev main_c_6 : Ref sig .tc := ⟨.hbm, 260, rfl⟩
abbrev main_call4_v0 : Ref sig .tc := ⟨.hbm, 261, rfl⟩
abbrev main_v224 : Ref sig .tc := ⟨.hbm, 262, rfl⟩
abbrev main_v225 : Ref sig .tc := ⟨.hbm, 263, rfl⟩
abbrev main_v226 : Ref sig .tc := ⟨.hbm, 264, rfl⟩
abbrev main_v227 : Ref sig .tc := ⟨.hbm, 265, rfl⟩
abbrev main_v228 : Ref sig .tc := ⟨.hbm, 266, rfl⟩
abbrev main_v229 : Ref sig .tc := ⟨.hbm, 267, rfl⟩
abbrev main_v230 : Ref sig .tc := ⟨.hbm, 268, rfl⟩
abbrev main_v231 : Ref sig .tc := ⟨.hbm, 269, rfl⟩
abbrev main_v232 : Ref sig .tc := ⟨.hbm, 270, rfl⟩
abbrev main_v233 : Ref sig .tc := ⟨.hbm, 271, rfl⟩
abbrev main_v234 : Ref sig .tc := ⟨.hbm, 272, rfl⟩
abbrev main_v235 : Ref sig .tc := ⟨.hbm, 273, rfl⟩
abbrev main_v236 : Ref sig .tc := ⟨.hbm, 274, rfl⟩
abbrev main_v237 : Ref sig .tc := ⟨.hbm, 275, rfl⟩
abbrev main_v238 : Ref sig .tc := ⟨.hbm, 276, rfl⟩
abbrev main_v239 : Ref sig .tc := ⟨.hbm, 277, rfl⟩
abbrev main_v240 : Ref sig .tc := ⟨.hbm, 278, rfl⟩
abbrev main_v241 : Ref sig .tc := ⟨.hbm, 279, rfl⟩
abbrev main_v242 : Ref sig .tc := ⟨.hbm, 280, rfl⟩
abbrev main_v243 : Ref sig .tc := ⟨.hbm, 281, rfl⟩
abbrev main_v244 : Ref sig .tc := ⟨.hbm, 282, rfl⟩
abbrev main_v245 : Ref sig .tc := ⟨.hbm, 283, rfl⟩
abbrev main_v246 : Ref sig .tc := ⟨.hbm, 284, rfl⟩
abbrev main_v247 : Ref sig .tc := ⟨.hbm, 285, rfl⟩
abbrev main_v248 : Ref sig .tc := ⟨.hbm, 286, rfl⟩
abbrev main_v249 : Ref sig .tc := ⟨.hbm, 287, rfl⟩
abbrev main_v250 : Ref sig .tc := ⟨.hbm, 288, rfl⟩
abbrev main_v251 : Ref sig .tc := ⟨.hbm, 289, rfl⟩
abbrev main_v252 : Ref sig .tc := ⟨.hbm, 290, rfl⟩
abbrev main_v253 : Ref sig .tc := ⟨.hbm, 291, rfl⟩
abbrev main_v254 : Ref sig .tc := ⟨.hbm, 292, rfl⟩
abbrev main_v255 : Ref sig .tc := ⟨.hbm, 293, rfl⟩
abbrev main_v256 : Ref sig .tc := ⟨.hbm, 294, rfl⟩
abbrev main_v257 : Ref sig .tc := ⟨.hbm, 295, rfl⟩
abbrev main_v258 : Ref sig .tc := ⟨.hbm, 296, rfl⟩
abbrev main_v259 : Ref sig .tc := ⟨.hbm, 297, rfl⟩
abbrev main_v260 : Ref sig .tc := ⟨.hbm, 298, rfl⟩
abbrev main_v261 : Ref sig .tc := ⟨.hbm, 299, rfl⟩
abbrev main_v262 : Ref sig .tc := ⟨.hbm, 300, rfl⟩
abbrev main_v263 : Ref sig .tc := ⟨.hbm, 301, rfl⟩
abbrev main_v264 : Ref sig .tc := ⟨.hbm, 302, rfl⟩
abbrev main_v265 : Ref sig .tc := ⟨.hbm, 303, rfl⟩
abbrev main_v266 : Ref sig .tc := ⟨.hbm, 304, rfl⟩
abbrev main_v267 : Ref sig .tc := ⟨.hbm, 305, rfl⟩
abbrev main_v268 : Ref sig .tc := ⟨.hbm, 306, rfl⟩
abbrev main_v269 : Ref sig .tc := ⟨.hbm, 307, rfl⟩
abbrev main_v270 : Ref sig .tc := ⟨.hbm, 308, rfl⟩
abbrev main_v271 : Ref sig .tc := ⟨.hbm, 309, rfl⟩
abbrev main_v272 : Ref sig .tc := ⟨.hbm, 310, rfl⟩
abbrev main_v273 : Ref sig .tc := ⟨.hbm, 311, rfl⟩
abbrev main_v274 : Ref sig .tc := ⟨.hbm, 312, rfl⟩
abbrev main_cst_7 : Ref sig .tc := ⟨.hbm, 313, rfl⟩
abbrev main_v275 : Ref sig .tc := ⟨.hbm, 314, rfl⟩
abbrev main_v276 : Ref sig .tc := ⟨.hbm, 315, rfl⟩
abbrev main_c_8 : Ref sig .tc := ⟨.hbm, 316, rfl⟩
abbrev main_call5_v0 : Ref sig .tc := ⟨.hbm, 317, rfl⟩
abbrev main_v277 : Ref sig .tc := ⟨.hbm, 318, rfl⟩
abbrev main_v278 : Ref sig .tc := ⟨.hbm, 319, rfl⟩
abbrev main_v279 : Ref sig .tc := ⟨.hbm, 320, rfl⟩
abbrev main_v280 : Ref sig .tc := ⟨.hbm, 321, rfl⟩
abbrev main_v281 : Ref sig .tc := ⟨.hbm, 322, rfl⟩
abbrev main_v282 : Ref sig .tc := ⟨.hbm, 323, rfl⟩
abbrev main_v283 : Ref sig .tc := ⟨.hbm, 324, rfl⟩
abbrev main_v284 : Ref sig .tc := ⟨.hbm, 325, rfl⟩
abbrev main_v285 : Ref sig .tc := ⟨.hbm, 326, rfl⟩
abbrev main_v286 : Ref sig .tc := ⟨.hbm, 327, rfl⟩
abbrev main_v287 : Ref sig .tc := ⟨.hbm, 328, rfl⟩
abbrev main_v288 : Ref sig .tc := ⟨.hbm, 329, rfl⟩
abbrev main_v289 : Ref sig .tc := ⟨.hbm, 330, rfl⟩
abbrev main_v290 : Ref sig .tc := ⟨.hbm, 331, rfl⟩
abbrev main_v291 : Ref sig .tc := ⟨.hbm, 332, rfl⟩
abbrev main_v292 : Ref sig .tc := ⟨.hbm, 333, rfl⟩
abbrev main_v293 : Ref sig .tc := ⟨.hbm, 334, rfl⟩
abbrev main_v294 : Ref sig .tc := ⟨.hbm, 335, rfl⟩
abbrev main_v295 : Ref sig .tc := ⟨.hbm, 336, rfl⟩
abbrev main_v296 : Ref sig .tc := ⟨.hbm, 337, rfl⟩
abbrev main_v297 : Ref sig .tc := ⟨.hbm, 338, rfl⟩
abbrev main_v298 : Ref sig .tc := ⟨.hbm, 339, rfl⟩
abbrev main_v299 : Ref sig .tc := ⟨.hbm, 340, rfl⟩
abbrev main_v300 : Ref sig .tc := ⟨.hbm, 341, rfl⟩
abbrev main_v301 : Ref sig .tc := ⟨.hbm, 342, rfl⟩
abbrev main_v302 : Ref sig .tc := ⟨.hbm, 343, rfl⟩
abbrev main_v303 : Ref sig .tc := ⟨.hbm, 344, rfl⟩
abbrev main_v304 : Ref sig .tc := ⟨.hbm, 345, rfl⟩
abbrev main_v305 : Ref sig .tc := ⟨.hbm, 346, rfl⟩
abbrev main_v306 : Ref sig .tc := ⟨.hbm, 347, rfl⟩
abbrev main_v307 : Ref sig .tc := ⟨.hbm, 348, rfl⟩
abbrev main_v308 : Ref sig .tc := ⟨.hbm, 349, rfl⟩
abbrev main_v309 : Ref sig .tc := ⟨.hbm, 350, rfl⟩
abbrev main_v310 : Ref sig .tc := ⟨.hbm, 351, rfl⟩
abbrev main_v311 : Ref sig .tc := ⟨.hbm, 352, rfl⟩
abbrev main_v312 : Ref sig .tc := ⟨.hbm, 353, rfl⟩
abbrev main_v313 : Ref sig .tc := ⟨.hbm, 354, rfl⟩
abbrev main_v314 : Ref sig .tc := ⟨.hbm, 355, rfl⟩
abbrev main_v315 : Ref sig .tc := ⟨.hbm, 356, rfl⟩
abbrev main_v316 : Ref sig .tc := ⟨.hbm, 357, rfl⟩
abbrev main_v317 : Ref sig .tc := ⟨.hbm, 358, rfl⟩
abbrev main_v318 : Ref sig .tc := ⟨.hbm, 359, rfl⟩
abbrev main_v319 : Ref sig .tc := ⟨.hbm, 360, rfl⟩
abbrev main_v320 : Ref sig .tc := ⟨.hbm, 361, rfl⟩
abbrev main_v321 : Ref sig .tc := ⟨.hbm, 362, rfl⟩
abbrev main_v322 : Ref sig .tc := ⟨.hbm, 363, rfl⟩
abbrev main_v323 : Ref sig .tc := ⟨.hbm, 364, rfl⟩
abbrev main_v324 : Ref sig .tc := ⟨.hbm, 365, rfl⟩
abbrev main_v325 : Ref sig .tc := ⟨.hbm, 366, rfl⟩
abbrev main_v326 : Ref sig .tc := ⟨.hbm, 367, rfl⟩
abbrev main_v327 : Ref sig .tc := ⟨.hbm, 368, rfl⟩
abbrev main_v328 : Ref sig .tc := ⟨.hbm, 369, rfl⟩
abbrev main_cst_9 : Ref sig .tc := ⟨.hbm, 370, rfl⟩
abbrev main_v329 : Ref sig .tc := ⟨.hbm, 371, rfl⟩
abbrev main_v330 : Ref sig .tc := ⟨.hbm, 372, rfl⟩
abbrev main_cst_10 : Ref sig .tc := ⟨.hbm, 373, rfl⟩
abbrev main_v331 : Ref sig .tc := ⟨.hbm, 374, rfl⟩
abbrev main_cst_11 : Ref sig .tc := ⟨.hbm, 375, rfl⟩
abbrev main_v332 : Ref sig .tc := ⟨.hbm, 376, rfl⟩
abbrev main_v333 : Ref sig .tc := ⟨.hbm, 377, rfl⟩
abbrev main_v334 : Ref sig .tc := ⟨.hbm, 378, rfl⟩
abbrev main_v335 : Ref sig .tc := ⟨.hbm, 379, rfl⟩
abbrev main_v336 : Ref sig .tc := ⟨.hbm, 380, rfl⟩
abbrev main_cst_12 : Ref sig .tc := ⟨.hbm, 381, rfl⟩
abbrev main_v337 : Ref sig .tc := ⟨.hbm, 382, rfl⟩
abbrev main_cst_13 : Ref sig .tc := ⟨.hbm, 383, rfl⟩
abbrev main_v338 : Ref sig .tc := ⟨.hbm, 384, rfl⟩
abbrev main_v339 : Ref sig .tc := ⟨.hbm, 385, rfl⟩
abbrev main_v340 : Ref sig .tc := ⟨.hbm, 386, rfl⟩
abbrev main_v341 : Ref sig .tc := ⟨.hbm, 387, rfl⟩
abbrev main_v342 : Ref sig .tc := ⟨.hbm, 388, rfl⟩
abbrev main_cst_14 : Ref sig .tc := ⟨.hbm, 389, rfl⟩
abbrev main_v343 : Ref sig .tc := ⟨.hbm, 390, rfl⟩
abbrev main_v344 : Ref sig .tc := ⟨.hbm, 391, rfl⟩
abbrev main_v345 : Ref sig .tc := ⟨.hbm, 392, rfl⟩
abbrev main_v346 : Ref sig .tc := ⟨.hbm, 393, rfl⟩

abbrev nD : Nat := 1
abbrev τ : Topo := Topo.v7x

variable {F : FTy → Type} [FloatOps F]
-- ==== Proof.ScoreBlock.lean ====
/- What one grid point of the score kernel stores, over what its scratch holds, and what the scratch holds. -/
module

public import proofs.«01_k».proof.Proof.Gen.ScoreIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ScoreIdeal.Block

open Idealize.ShloMosaic Idealize.ShloMosaic.TcCoe Idealize.SL.Sem
open Cert.ScoreIdeal Cert.ScoreIdeal.Gen

variable (m : (ℓ : Loc nD τ sig) → Buf (Elt Ideal) ℓ)

/-- One entry of the score: the logistic function of the product of a row and a column. -/
def entry (x : FVec Ideal S256x128 .bf16) (f : FVec Ideal S128x4096 .bf16) (p : Fin 256) (q : Fin 4096) : EReal :=
  Ideal.div 1 (1 + Ideal.exp (0 - ∑ k : Fin 128, x (ix2 p k) * f (ix2 k q)))

/-- The columns of image row `n` of the block. -/
def rowOf (x : FVec Ideal S256x128 .bf16) (f : FVec Ideal S128x4096 .bf16) (n : ℕ) : FVec Ideal S256x64 .f32 :=
  fun j => if h : n < 64 then entry x f (j 0) ⟨64 * n + (j 1).val, by have : (j 1).val < 64 := (j 1).isLt; omega⟩ else 0

/-- The list holds the pieces `G n`, `G (n + 1)`, … in order. -/
def Pieces (G : ℕ → FVec Ideal S256x64 .f32) : ℕ → List ((s : Shape) × (s.Idx → Ideal .f32)) → Prop
  | _, [] => True
  | n, x :: L => x = ⟨S256x64, G n⟩ ∧ Pieces G (n + 1) L

theorem Pieces.cons {G : ℕ → FVec Ideal S256x64 .f32} {n : ℕ} {v : FVec Ideal S256x64 .f32} {L : List ((s : Shape) × (s.Idx → Ideal .f32))}
    (h : v = G n) (hL : Pieces G (n + 1) L) : Pieces G n (⟨S256x64, v⟩ :: L) := ⟨congrArg _ h, hL⟩

theorem Pieces.eq_ofFn (G : ℕ → FVec Ideal S256x64 .f32) : ∀ (xs : List ((s : Shape) × (s.Idx → Ideal .f32))) (n : ℕ), Pieces G n xs →
    xs = List.ofFn fun k : Fin xs.length => ⟨S256x64, G (n + k.val)⟩
  | [], _, _ => rfl
  | x :: L, n, h => by
    have hL := Pieces.eq_ofFn G L (n + 1) h.2
    refine (congrArg₂ List.cons h.1 hL).trans ?_
    refine Eq.trans ?_ (List.ofFn_succ (n := L.length)).symm
    refine congrArg₂ List.cons rfl (congrArg List.ofFn (funext fun k => ?_))
    rw [show n + 1 + k.val = n + (Fin.succ k).val by simp only [Fin.val_succ]; omega]

theorem stack_apply (G : ℕ → FVec Ideal S256x64 .f32) (xs : List ((s : Shape) × (s.Idx → Ideal .f32))) (hc)
    (hl : xs.length = 64) (hx : Pieces G 0 xs) (p : Fin 256) (h w : Fin 64) :
    k0_pay2 (concatenate S16384x64 0 xs hc) (ix3 p h w) = G h.val (ix2 p w) := by
  have he := hx.eq_ofFn
  generalize xs.length = N at hl he
  subst hl
  subst he
  generalize hv : concatenate S16384x64 0 _ hc = v
  pointwise [k0_pay2]
  subst hv
  have := h.isLt; have := p.isLt; have := w.isLt
  refine (concatenate_ofFn_apply (t := S16384x64) (s₁ := S256x64) 0 (fun k : Fin 64 => G (0 + k.val)) hc rfl 256 rfl _ h ?_ (ix2 p w) ?_ ?_).trans (by rw [Nat.zero_add])
  · show (h.val * 256 + p.val) / 256 = _; omega
  · show p.val = (h.val * 256 + p.val) % 256; omega
  · intro b hb; match b, hb with | 1, _ => rfl

/-- What a grid point stores, over what its scratch then holds. -/
theorem block (c : Dev nD) (t : Fin cfg0.N) (p : Fin 256) (h w : Fin 64) :
    (outsAt0 m c t.val t.isLt).1 (ix3 p h w)
      = entry (k0_pay4 (iblk m c 2 t) (iblk m c 3 t)) (outsAt0 m c t.val t.isLt).2 p ⟨64 * h.val + w.val, by omega⟩ := by
  by_cases h0 : t.val % 8 = 0
  · rw [outsAt0_A m c t h0]
    frame_out
    simp (disch := decide) only [View.readCov_fill]
    unfold k0_pay1
    generalize k0_pay3 (iblk m c 1 t) (iblk m c 0 t) = f
    generalize iblk m c 2 t = x2
    generalize iblk m c 3 t = x3
    refine (stack_apply (rowOf (k0_pay4 x2 x3) f) _ _ rfl ?_ p h w).trans (by simp only [rowOf, h.isLt, dif_pos]; rfl)
    repeat' first | exact trivial | refine Pieces.cons ?_ ?_
    all_goals (funext j; idx_vars j; unfold_payloads; pointwise [rowOf, entry]; try simp only [← Nat.add_assoc, Nat.reduceAdd])
  · rw [outsAt0_B m c t h0]
    frame_out
    simp only [read_unread_whole]
    unfold k0_pay1
    generalize (outsAt0 m c (t.val - 1) _).2 = f
    generalize iblk m c 2 t = x2
    generalize iblk m c 3 t = x3
    refine (stack_apply (rowOf (k0_pay4 x2 x3) f) _ _ rfl ?_ p h w).trans (by simp only [rowOf, h.isLt, dif_pos]; rfl)
    repeat' first | exact trivial | refine Pieces.cons ?_ ?_
    all_goals (funext j; idx_vars j; unfold_payloads; pointwise [rowOf, entry]; try simp only [← Nat.add_assoc, Nat.reduceAdd])

/-- The scratch after point `n`: the second projection of the features, the same at every point. -/
theorem scratch_step (c : Dev nD) (t : Fin cfg0.N) :
    (t.val % 8 = 0 → (outsAt0 m c t.val t.isLt).2 = k0_pay3 (iblk m c 1 t) (iblk m c 0 t))
    ∧ (¬ t.val % 8 = 0 → (outsAt0 m c t.val t.isLt).2 = (outsAt0 m c (t.val - 1) (Nat.lt_of_le_of_lt (Nat.sub_le _ _) t.isLt)).2) := by
  refine ⟨fun h0 => ?_, fun h0 => ?_⟩
  · rw [outsAt0_A m c t h0]
    frame_out
  · rw [outsAt0_B m c t h0]
    rfl

end Cert.ScoreIdeal.Block
end
-- ==== Proof.ScoreInputs.lean ====
/- The blocks of the four input windows of the score kernel, at an element, from the arguments. -/
module

public import proofs.«01_k».proof.Proof.Gen.ScoreIdeal.Value
public import Idealize.ShloMosaic.Lib.Pipeline.ValueKit
public import Idealize.ShloMosaic.Lib.Pointwise

@[expose] public section

set_option maxRecDepth 16384

noncomputable section

namespace Cert.ScoreIdeal.Block

open Idealize.ShloMosaic Idealize.ShloMosaic.TcCoe Idealize.SL.Sem
open Cert.ScoreIdeal Cert.ScoreIdeal.Gen

variable (m : (ℓ : Loc nD τ sig) → Buf (Elt Ideal) ℓ)

/-- The first projection's weights and bias, the second's, and the scale, as extended reals. -/
abbrev W1 (c : Dev nD) (k : Fin 128) (j : Fin 256) : EReal := m ((c : Thread nD τ).loc main_arg1) (ix4 k j 0 0)
abbrev B1 (c : Dev nD) (k : Fin 128) : EReal := m ((c : Thread nD τ).loc main_arg2) (ix1 k)
abbrev W2 (c : Dev nD) (k : Fin 128) (j : Fin 256) : EReal := m ((c : Thread nD τ).loc main_arg3) (ix4 k j 0 0)
abbrev B2 (c : Dev nD) (k : Fin 128) : EReal := m ((c : Thread nD τ).loc main_arg4) (ix1 k)
abbrev sc : EReal := Ideal.ofBits .f32 0x3DB504F3#32

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)

/-- The features, below them rows of ones. -/
theorem feat_block (c : Dev nD) (t : Fin cfg0.N) (j : Fin 264) (q : Fin 4096) :
    iblk m c 0 t (ix2 j q) = if h : j.val < 256 then m ((c : Thread nD τ).loc main_arg0) (ix4 0 ⟨j.val, h⟩ ⟨q.val / 64, by omega⟩ ⟨q.val % 64, by omega⟩) else (1 : EReal) := by
  have e : iblk m c 0 t (ix2 j q) = V m c main_v4 (ix2 j q) := by
    blk_ext [iblk, idx0 t]
  rw [e]
  entry_read
  pointwise

/-- The second weights, beside them eighths of the bias. -/
theorem w2_block (c : Dev nD) (t : Fin cfg0.N) (j : Fin 264) (k : Fin 128) :
    iblk m c 1 t (ix2 k j) = if h : j.val < 256 then W2 m c k ⟨j.val, h⟩ else (Ideal.div (B2 m c k) (Ideal.ofBits .f32 0x41000000#32)) := by
  have e : iblk m c 1 t (ix2 k j) = V m c main_v27 (ix2 k j) := by
    blk_ext [iblk, idx1 t]
  rw [e]
  entry_read
  pointwise

/-- A point's columns of the features, transposed. -/
theorem featT_block (c : Dev nD) (t : Fin cfg0.N) (j : Fin 264) (p : Fin 256) :
    iblk m c 2 t (ix2 p j) = if h : j.val < 256 then m ((c : Thread nD τ).loc main_arg0) (ix4 0 ⟨j.val, h⟩ ⟨(256 * t.val + p.val) / 64, by have : t.val < 16 := t.isLt; omega⟩ ⟨(256 * t.val + p.val) % 64, by omega⟩) else (1 : EReal) := by
  have e : iblk m c 2 t (ix2 p j) = V m c main_v5 (ix2 ⟨256 * t.val + p.val, by have : t.val < 16 := t.isLt; omega⟩ j) := by
    blk_ext [iblk, idx2 t]
  rw [e]
  entry_read
  pointwise

/-- The first weights scaled, below them eighths of the scaled bias. -/
theorem w1_block (c : Dev nD) (t : Fin cfg0.N) (j : Fin 264) (k : Fin 128) :
    iblk m c 3 t (ix2 j k) = if h : j.val < 256 then W1 m c k ⟨j.val, h⟩ * sc else Ideal.div (B1 m c k * sc) (Ideal.ofBits .f32 0x41000000#32) := by
  have e : iblk m c 3 t (ix2 j k) = V m c main_v28 (ix2 j k) := by
    blk_ext [iblk, idx3 t]
  rw [e]
  entry_read
  pointwise

end Cert.ScoreIdeal.Block
end
-- ==== Proof.ScoreMath.lean ====
/- Laws of sums of extended reals that the score's equation uses: a positive finite factor moves out of a sum, and eight equal
   eighths make the whole. -/
module

public import Idealize.ShloMosaic.Lib.Pointwise
public import Idealize.ShloMosaic.Lib.IdealHost

@[expose] public section

noncomputable section

namespace Cert.ScoreMath

open Idealize.ShloMosaic

/-- A non-negative finite factor on the right moves out of a sum. -/
theorem sum_mul_right {ι : Type*} (S : Finset ι) (f : ι → EReal) (s : EReal) (h0 : 0 ≤ s) (h1 : s ≠ ⊤) :
    ∑ i ∈ S, f i * s = (∑ i ∈ S, f i) * s := by
  classical
  induction S using Finset.induction_on with
  | empty => simp
  | insert a S ha ih =>
    rw [Finset.sum_insert ha, Finset.sum_insert ha, ih, EReal.right_distrib_of_nonneg_of_ne_top h0 h1]

theorem eight : Ideal.ofBits .f32 0x41000000#32 = ((8 : ℝ) : EReal) := by
  simp [Ideal.ofBits, Ideal.ieee, -EReal.coe_mul]; norm_num

theorem scale : ∃ r : ℝ, 0 < r ∧ Ideal.ofBits .f32 0x3DB504F3#32 = (r : EReal) := by
  refine ⟨11863283 / 134217728, by norm_num, ?_⟩
  simp [Ideal.ofBits, Ideal.ieee, -EReal.coe_mul]; norm_num

/-- Eight eighths of a number make the number. -/
theorem eight_eighths (x : EReal) : ∑ _i : Fin 8, Ideal.div x (Ideal.ofBits .f32 0x41000000#32) = x := by
  rw [eight, Ideal.div_coe (by norm_num)]
  induction x with
  | bot => rw [EReal.bot_mul_coe_of_pos (by norm_num)]; simp only [Fin.sum_univ_eight, EReal.bot_add, EReal.top_add_top]
  | top => rw [EReal.top_mul_coe_of_pos (by norm_num)]; simp only [Fin.sum_univ_eight, EReal.bot_add, EReal.top_add_top]
  | coe r =>
    rw [Fin.sum_univ_eight]; norm_cast; ring_nf

end Cert.ScoreMath
end
-- ==== Proof.ScoreEq.lean ====
/- The score volume: the kernel's result array is, element by element, the logistic function of the scaled product of the two
   projections of the features. -/
module

public import proofs.«01_k».proof.Proof.ScoreBlock
public import proofs.«01_k».proof.Proof.ScoreInputs
public import proofs.«01_k».proof.Proof.ScoreMath
public import proofs.«01_k».proof.Proof.Gen.ScoreRefIdeal.Run

@[expose] public section

set_option maxRecDepth 16384

noncomputable section

namespace Cert.ScoreIdeal.Block

open Idealize.ShloMosaic Idealize.ShloMosaic.TcCoe Idealize.SL.Sem
open Cert.ScoreIdeal Cert.ScoreIdeal.Gen Cert.ScoreMath

variable (m : (ℓ : Loc nD τ sig) → Buf (Elt Ideal) ℓ)

/-- The features as a matrix: channel by position. -/
def feat (c : Dev nD) (j : Fin 256) (q : Fin 4096) : EReal :=
  m ((c : Thread nD τ).loc main_arg0) (ix4 0 j ⟨q.val / 64, by omega⟩ ⟨q.val % 64, by omega⟩)

/-- The first projection, `W₁·x + b₁`. -/
def proj1 (c : Dev nD) (k : Fin 128) (q : Fin 4096) : EReal :=
  (∑ j : Fin 256, W1 m c k j * feat m c j q) + B1 m c k

/-- The second projection, `W₂·x + b₂`. -/
def proj2 (c : Dev nD) (k : Fin 128) (q : Fin 4096) : EReal :=
  (∑ j : Fin 256, W2 m c k j * feat m c j q) + B2 m c k

/-- A sum over the features' channels and the eight rows of ones. -/
theorem sum_split (A B : Fin 256 → EReal) (a : EReal) :
    ∑ j : Fin 264, (if h : j.val < 256 then A ⟨j.val, h⟩ else 1) * (if h : j.val < 256 then B ⟨j.val, h⟩ else a)
      = (∑ j : Fin 256, A j * B j) + ∑ _j : Fin 8, a := by
  rw [Fin.sum_univ_add (a := 256) (b := 8)]
  refine congrArg₂ (· + ·) ?_ ?_
  · refine Finset.sum_congr rfl fun j _ => ?_
    have : (Fin.castAdd 8 j).val < 256 := j.isLt
    rw [dif_pos this, dif_pos this]; rfl
  · refine Finset.sum_congr rfl fun j _ => ?_
    have : ¬ (Fin.natAdd 256 j).val < 256 := by simp
    rw [dif_neg this, dif_neg this, one_mul]

theorem columns (a : FVec Ideal S128x264 .bf16) (b : FVec Ideal S264x4096 .bf16) (k : Fin 128) (q : Fin 4096) :
    k0_pay3 a b (ix2 k q) = ∑ j : Fin 264, b (ix2 j q) * a (ix2 k j) := by
  pointwise [k0_pay3]
  exact Finset.sum_congr rfl fun j _ => mul_comm _ _

theorem rows (a : FVec Ideal S256x264 .bf16) (b : FVec Ideal S264x128 .bf16) (p : Fin 256) (k : Fin 128) :
    k0_pay4 a b (ix2 p k) = ∑ j : Fin 264, a (ix2 p j) * b (ix2 j k) := by
  pointwise [k0_pay4]

theorem scratch_apply (c : Dev nD) (t : Fin cfg0.N) (k : Fin 128) (q : Fin 4096) :
    k0_pay3 (iblk m c 1 t) (iblk m c 0 t) (ix2 k q) = proj2 m c k q := by
  rw [columns]
  simp only [feat_block, w2_block]
  refine (sum_split (fun j => feat m c j q) (fun j => W2 m c k j) _).trans ?_
  rw [eight_eighths]
  exact congrArg (· + _) (Finset.sum_congr rfl fun j _ => mul_comm _ _)

theorem rows_apply (c : Dev nD) (t : Fin cfg0.N) (k : Fin 128) (p : Fin 256) :
    k0_pay4 (iblk m c 2 t) (iblk m c 3 t) (ix2 p k)
      = proj1 m c k ⟨256 * t.val + p.val, by have : t.val < 16 := t.isLt; omega⟩ * sc := by
  rw [rows]
  simp only [featT_block, w1_block]
  obtain ⟨r, hr, hs⟩ := scale
  rw [show sc = (r : EReal) from hs]
  refine (sum_split (fun j => feat m c j ⟨256 * t.val + p.val, by have : t.val < 16 := t.isLt; omega⟩) (fun j => W1 m c k j * (r : EReal)) _).trans ?_
  rw [eight_eighths, proj1, EReal.right_distrib_of_nonneg_of_ne_top (by exact_mod_cast hr.le) (EReal.coe_ne_top r), ← sum_mul_right _ _ _ (by exact_mod_cast hr.le) (EReal.coe_ne_top r)]
  exact congrArg (· + _) (Finset.sum_congr rfl fun j _ => by rw [← mul_assoc, mul_comm (feat m c j _)])

/-- The score at an element, from the two projections. -/
def score (c : Dev nD) (p q : Fin 4096) : EReal :=
  Ideal.div 1 (1 + Ideal.exp (0 - (∑ k : Fin 128, proj1 m c k p * proj2 m c k q) * sc))

/-- The scratch at a point of either case, at an element. -/
theorem scratch_at (c : Dev nD) : ∀ (n : ℕ) (hn : n < cfg0.N) (k : Fin 128) (q : Fin 4096), (outsAt0 m c n hn).2 (ix2 k q) = proj2 m c k q := by
  intro n
  induction n with
  | zero => intro hn k q; rw [(scratch_step m c ⟨0, hn⟩).1 (by rfl)]; exact scratch_apply m c _ k q
  | succ n ih =>
    intro hn k q
    by_cases h0 : (n + 1) % 8 = 0
    · rw [(scratch_step m c ⟨n + 1, hn⟩).1 h0]; exact scratch_apply m c _ k q
    · rw [(scratch_step m c ⟨n + 1, hn⟩).2 h0]; exact ih _ k q

theorem block_score (c : Dev nD) (t : Fin cfg0.N) (p : Fin 256) (h w : Fin 64) :
    (outsAt0 m c t.val t.isLt).1 (ix3 p h w)
      = score m c ⟨256 * t.val + p.val, by have : t.val < 16 := t.isLt; omega⟩ ⟨64 * h.val + w.val, by omega⟩ := by
  rw [block, entry, score]
  obtain ⟨r, hr, hs⟩ := scale
  rw [← sum_mul_right _ _ _ (by rw [show sc = (r : EReal) from hs]; exact_mod_cast hr.le) (by rw [show sc = (r : EReal) from hs]; exact EReal.coe_ne_top r)]
  simp only [scratch_at, rows_apply]
  congr 4
  exact Finset.sum_congr rfl fun k _ => by rw [mul_assoc, mul_comm sc, ← mul_assoc]

/-- The result array of the kernel at an element. -/
theorem result (c : Dev nD) (P : Fin 4096) (h w : Fin 64) :
    Value.G4 m c (ix3 P h w) = score m c P ⟨64 * h.val + w.val, by omega⟩ := by
  have hp : Value.pt4Of (ix3 P h w) = P.val / 256 := by
    show 1 * (P.val / 256 - 0) + 1 * (h.val / 64 - 0) + 1 * (w.val / 64 - 0) = _
    omega
  have hN : P.val / 256 < cfg0.N := by have : P.val < 4096 := P.isLt; show _ < 16; omega
  have hl : Value.loc4Of (ix3 P h w) = ix3 ⟨P.val % 256, by omega⟩ h w := by
    funext a; match a with
    | 0 => rfl
    | 1 => exact Fin.ext (Nat.mod_eq_of_lt h.isLt)
    | 2 => exact Fin.ext (Nat.mod_eq_of_lt w.isLt)
  rw [Value.G4, dif_pos (by rw [hp]; exact hN), hl]
  have e := Value.outsAt0_sweep m c (P.val / 256) hN
  refine (congrArg (fun s => s.1 (ix3 ⟨P.val % 256, by omega⟩ h w)) (Value.fold0_congr m c _ _ _ (by omega) hp)).trans ?_
  rw [← e]
  refine (block_score m c ⟨P.val / 256, hN⟩ _ h w).trans ?_
  congr 1
  exact Fin.ext (by show 256 * (P.val / 256) + P.val % 256 = _; omega)

theorem feat_at (c : Dev nD) (j : Fin 256) (h w : Fin 64) :
    feat m c j ⟨64 * h.val + w.val, by omega⟩ = m ((c : Thread nD τ).loc main_arg0) (ix4 0 j h w) := by
  rw [feat]
  have e1 : (64 * h.val + w.val) / 64 = h.val := by omega
  have e2 : (64 * h.val + w.val) % 64 = w.val := by omega
  simp only [e1, e2, Fin.eta]

end Cert.ScoreIdeal.Block
end
-- ==== Proof.HeadIdealFrame0.lean ====
/- The first call of the head: its one point runs, and what it leaves in its output. -/
module

public import proofs.«01_k».proof.Proof.Gen.HeadIdeal.Launch
public import proofs.«01_k».proof.Proof.Gen.HeadIdeal.Skeleton
public import proofs.«01_k».proof.Proof.Gen.HeadIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.HeadIdeal.Run

open Cert.HeadIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The block of a window, read off its array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

abbrev VO0_10 : View sig .tc .vmem S34x34x512 .f32 := (Memref.whole cc0_stg10_0 : Memref sig .tc .vmem S34x34x512 .f32).view
abbrev ms0_0 (t : Fin cfg0.N) : Memref sig .tc .vmem S64x64x264 .bf16 := win0_0.stage (cfg0.slots t 0)
abbrev hs0_0 (t : Fin cfg0.N) : (ms0_0 t).IsWhole := hstage0_0 0
abbrev ms0_1 (t : Fin cfg0.N) : Memref sig .tc .vmem S9x512x264 .bf16 := win0_1.stage (cfg0.slots t 1)
abbrev hs0_1 (t : Fin cfg0.N) : (ms0_1 t).IsWhole := hstage0_1 0
abbrev ms0_2 (t : Fin cfg0.N) : Memref sig .tc .vmem S9x512x512 .bf16 := win0_2.stage (cfg0.slots t 2)
abbrev hs0_2 (t : Fin cfg0.N) : (ms0_2 t).IsWhole := hstage0_2 0
abbrev ms0_3 (t : Fin cfg0.N) : Memref sig .tc .vmem S512x264 .bf16 := win0_3.stage (cfg0.slots t 3)
abbrev hs0_3 (t : Fin cfg0.N) : (ms0_3 t).IsWhole := hstage0_3 0
abbrev ms0_4 (t : Fin cfg0.N) : Memref sig .tc .vmem S1x512 .f32 := win0_4.stage (cfg0.slots t 4)
abbrev hs0_4 (t : Fin cfg0.N) : (ms0_4 t).IsWhole := hstage0_4 0
abbrev ms0_5 (t : Fin cfg0.N) : Memref sig .tc .vmem S1x512 .f32 := win0_5.stage (cfg0.slots t 5)
abbrev hs0_5 (t : Fin cfg0.N) : (ms0_5 t).IsWhole := hstage0_5 0
abbrev ms0_6 (t : Fin cfg0.N) : Memref sig .tc .vmem S1x512 .f32 := win0_6.stage (cfg0.slots t 6)
abbrev hs0_6 (t : Fin cfg0.N) : (ms0_6 t).IsWhole := hstage0_6 0
abbrev ms0_7 (t : Fin cfg0.N) : Memref sig .tc .vmem S1x512 .f32 := win0_7.stage (cfg0.slots t 7)
abbrev hs0_7 (t : Fin cfg0.N) : (ms0_7 t).IsWhole := hstage0_7 0
abbrev ms0_8 (t : Fin cfg0.N) : Memref sig .tc .vmem S1x512 .f32 := win0_8.stage (cfg0.slots t 8)
abbrev hs0_8 (t : Fin cfg0.N) : (ms0_8 t).IsWhole := hstage0_8 0
abbrev ms0_9 (t : Fin cfg0.N) : Memref sig .tc .vmem S1x512 .f32 := win0_9.stage (cfg0.slots t 9)
abbrev hs0_9 (t : Fin cfg0.N) : (ms0_9 t).IsWhole := hstage0_9 0
abbrev ms0_10 (t : Fin cfg0.N) : Memref sig .tc .vmem S34x34x512 .f32 := win0_10.stage (cfg0.slots t 10)
abbrev hs0_10 (t : Fin cfg0.N) : (ms0_10 t).IsWhole := hstage0_10 0
abbrev scM0_0 : Memref sig .tc .vmem S34x34x512 .f32 := Memref.whole cc0_scratch0
abbrev scM0_1 : Memref sig .tc .vmem S4x33x33x264 .bf16 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc2_stg8_0), ((c : Thread nD τ).loc cc2_stg8_0) ↦{fullShare} f) ∗ (∃ f : Buf (Elt F) ((c : Thread nD τ).loc cc2_stg9_0), ((c : Thread nD τ).loc cc2_stg9_0) ↦{fullShare} f) ∗ (∃ f : Buf (Elt F) ((c : Thread nD τ).loc cc2_scratch0), ((c : Thread nD τ).loc cc2_scratch0) ↦{fullShare} f)) ∗ (∃ r, prngReg c r)) := by
  unfold Pipeline.ΦA; rw [scopedRest0_eq]; simp only [scM0_0, scM0_1, owns_whole]; try rfl

set_option maxHeartbeats 1000000 in
/-- The call run once on whole buffers: the pieces its stores leave in the output and in the scratch buffers, with the proof that the run ends holding them. -/
noncomputable def kernelRun0_A (c : Dev nD) (arg0 : Memref sig .tc .vmem S64x64x264 .bf16) (harg0 : arg0.IsWhole) (arg1 : Memref sig .tc .vmem S9x512x264 .bf16) (harg1 : arg1.IsWhole) (arg2 : Memref sig .tc .vmem S9x512x512 .bf16) (harg2 : arg2.IsWhole) (arg3 : Memref sig .tc .vmem S512x264 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S34x34x512 .f32) (harg10 : arg10.IsWhole) (arg11 : Memref sig .tc .vmem S34x34x512 .f32) (harg11 : arg11.IsWhole) (arg12 : Memref sig .tc .vmem S4x33x33x264 .bf16) (harg12 : arg12.IsWhole)
    (x0 : Vec F S64x64x264 .bf16) (x1 : Vec F S9x512x264 .bf16) (x2 : Vec F S9x512x512 .bf16) (x3 : Vec F S512x264 .bf16) (x4 : Vec F S1x512 .f32) (x5 : Vec F S1x512 .f32) (x6 : Vec F S1x512 .f32) (x7 : Vec F S1x512 .f32) (x8 : Vec F S1x512 .f32) (x9 : Vec F S1x512 .f32) :
    Σ' (L10 : List (View.Piece (Elt F) S34x34x512 .f32)), Σ' (LT0 : List (View.Piece (Elt F) S34x34x512 .f32)), { LT1 : List (View.Piece (Elt F) S4x33x33x264 .bf16) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f LT0) ∗ (∃ f, arg12.view.loc (c : Thread nD τ) ↦[arg12.view.set]{fullShare} arg12.view.writes (Elt F) f LT1)) -∗ K ⟨⟩))
          ⊢ wp frame (wpE (defs₀ (F := F)) Variants.none c none) E (cc0__block0_kernel arg0 harg0 arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__block0_kernel_eq_skeleton]; unfold cc0__block0_kernel_skel
    simp only [k0_part7_eq_skeleton]; unfold k0_part7_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds0, %fs0, -, HS0⟩, ⟨%ds1, %fs1, -, HS1⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [HS0]; · iexists _; iexact HS0
    iexists _; iexact HS1

/-- The stored pieces cover the output. -/
theorem cover0_A_10 (c : Dev nD) (arg0 : Memref sig .tc .vmem S64x64x264 .bf16) (harg0 : arg0.IsWhole) (arg1 : Memref sig .tc .vmem S9x512x264 .bf16) (harg1 : arg1.IsWhole) (arg2 : Memref sig .tc .vmem S9x512x512 .bf16) (harg2 : arg2.IsWhole) (arg3 : Memref sig .tc .vmem S512x264 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S34x34x512 .f32) (harg10 : arg10.IsWhole) (arg11 : Memref sig .tc .vmem S34x34x512 .f32) (harg11 : arg11.IsWhole) (arg12 : Memref sig .tc .vmem S4x33x33x264 .bf16) (harg12 : arg12.IsWhole)
    (x0 : Vec F S64x64x264 .bf16) (x1 : Vec F S9x512x264 .bf16) (x2 : Vec F S9x512x512 .bf16) (x3 : Vec F S512x264 .bf16) (x4 : Vec F S1x512 .f32) (x5 : Vec F S1x512 .f32) (x6 : Vec F S1x512 .f32) (x7 : Vec F S1x512 .f32) (x8 : Vec F S1x512 .f32) (x9 : Vec F S1x512 .f32) (y : S34x34x512.Idx) :
    ∃ pc ∈ (kernelRun0_A c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9).1, y ∈ pc.1.set :=
  View.cover_of_wholeMem (kernelRun0_A c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9).1 (by sl_whole_mem) y

def out0_A_10 (c : Dev nD) (arg0 : Memref sig .tc .vmem S64x64x264 .bf16) (harg0 : arg0.IsWhole) (arg1 : Memref sig .tc .vmem S9x512x264 .bf16) (harg1 : arg1.IsWhole) (arg2 : Memref sig .tc .vmem S9x512x512 .bf16) (harg2 : arg2.IsWhole) (arg3 : Memref sig .tc .vmem S512x264 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S34x34x512 .f32) (harg10 : arg10.IsWhole) (arg11 : Memref sig .tc .vmem S34x34x512 .f32) (harg11 : arg11.IsWhole) (arg12 : Memref sig .tc .vmem S4x33x33x264 .bf16) (harg12 : arg12.IsWhole)
    (x0 : Vec F S64x64x264 .bf16) (x1 : Vec F S9x512x264 .bf16) (x2 : Vec F S9x512x512 .bf16) (x3 : Vec F S512x264 .bf16) (x4 : Vec F S1x512 .f32) (x5 : Vec F S1x512 .f32) (x6 : Vec F S1x512 .f32) (x7 : Vec F S1x512 .f32) (x8 : Vec F S1x512 .f32) (x9 : Vec F S1x512 .f32) : Vec F S34x34x512 .f32 :=
  VO0_10.read (Elt F) (VO0_10.writes (Elt F) VO0_10.junk (kernelRun0_A c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9).1)

/-- What the output holds after the one grid point. -/
def outsAt0 (c : Dev nD) (t : Fin cfg0.N) : Vec F S34x34x512 .f32 :=
  out0_A_10 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)

/-- What each window holds before and after the body. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => (outsAt0 V c t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = (outsAt0 V c t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t))

set_option maxHeartbeats 1200000 in
/-- The body, run on the blocks of its windows. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  rw [show (dat0 V c).Φ t.castSucc = Pipeline.ΦA spec0 c from rfl, PhiA0_eq]
  unfold outsAt0
  unfold out0_A_10
  iintro ⟨⟨⟨HS0, HS1, HR2, HR3, HR4, HR5, HR6, HR7, HR8, HR9, HR10, HR11, HR12, HR13, HR14, HR15, HR16, HR17, HR18, HR19, HR20, HR21⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_A c _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS0]; · iexact HS0
  isplitl [HS1]; · iexact HS1
  iintro ⟨H0, H1, H2, H3, H4, H5, H6, H7, H8, H9, ⟨%e10, H10⟩, ⟨%fT0, HS0⟩, ⟨%fT1, HS1⟩⟩
  isplitl [HS0 HS1 HR2 HR3 HR4 HR5 HR6 HR7 HR8 HR9 HR10 HR11 HR12 HR13 HR14 HR15 HR16 HR17 HR18 HR19 HR20 HR21 Hg]
  · isplitl [HS0 HS1 HR2 HR3 HR4 HR5 HR6 HR7 HR8 HR9 HR10 HR11 HR12 HR13 HR14 HR15 HR16 HR17 HR18 HR19 HR20 HR21]
    · isplitl [HS0]
      · iexists _; unfold owns; iexists _; isplitr
        swap; · iexact HS0
        ipureintro; rfl
      isplitl [HS1]
      · iexists _; unfold owns; iexists _; isplitr
        swap; · iexact HS1
        ipureintro; rfl
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      iexact HR21
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  unfold owns; iexists _; isplitr
  swap; · iexact H10
  ipureintro; exact View.read_writes_of_cover _ _ _ _ _ (cover0_A_10 c _ _ _ _ _ _ _ _ _ _ _ _ _ _ _ _ _ _ _ _ _ _ _ _ _ _ _ _ _ _ _ _ _ _ _ _)

theorem defs₀_row0 (t : Fin cfg0.N) :
    defs₀ (F := F) .tc cfg0.body (cfg0.bodyArgs t (cfg0.slots t)) = bodyAt0 t := by
  unfold defs₀; rw [Defs.onTc_tc]

/-- The obligation of the body at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.HeadIdeal.Run
-- ==== Proof.HeadIdealFrame1.lean ====
/- The second call of the head: its one point runs, and what it leaves in its output. -/
module

public import proofs.«01_k».proof.Proof.Gen.HeadIdeal.Launch
public import proofs.«01_k».proof.Proof.Gen.HeadIdeal.Skeleton
public import proofs.«01_k».proof.Proof.Gen.HeadIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.HeadIdeal.Run

open Cert.HeadIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The block of a window, read off its array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

abbrev VO1_7 : View sig .tc .vmem S34x34x512 .f32 := (Memref.whole cc1_stg7_0 : Memref sig .tc .vmem S34x34x512 .f32).view
abbrev ms1_0 (t : Fin cfg1.N) : Memref sig .tc .vmem S34x34x512 .f32 := win1_0.stage (cfg1.slots t 0)
abbrev hs1_0 (t : Fin cfg1.N) : (ms1_0 t).IsWhole := hstage1_0 0
abbrev ms1_1 (t : Fin cfg1.N) : Memref sig .tc .vmem S9x512x512 .bf16 := win1_1.stage (cfg1.slots t 1)
abbrev hs1_1 (t : Fin cfg1.N) : (ms1_1 t).IsWhole := hstage1_1 0
abbrev ms1_2 (t : Fin cfg1.N) : Memref sig .tc .vmem S9x512x512 .bf16 := win1_2.stage (cfg1.slots t 2)
abbrev hs1_2 (t : Fin cfg1.N) : (ms1_2 t).IsWhole := hstage1_2 0
abbrev ms1_3 (t : Fin cfg1.N) : Memref sig .tc .vmem S1x512 .f32 := win1_3.stage (cfg1.slots t 3)
abbrev hs1_3 (t : Fin cfg1.N) : (ms1_3 t).IsWhole := hstage1_3 0
abbrev ms1_4 (t : Fin cfg1.N) : Memref sig .tc .vmem S1x512 .f32 := win1_4.stage (cfg1.slots t 4)
abbrev hs1_4 (t : Fin cfg1.N) : (ms1_4 t).IsWhole := hstage1_4 0
abbrev ms1_5 (t : Fin cfg1.N) : Memref sig .tc .vmem S1x512 .f32 := win1_5.stage (cfg1.slots t 5)
abbrev hs1_5 (t : Fin cfg1.N) : (ms1_5 t).IsWhole := hstage1_5 0
abbrev ms1_6 (t : Fin cfg1.N) : Memref sig .tc .vmem S1x512 .f32 := win1_6.stage (cfg1.slots t 6)
abbrev hs1_6 (t : Fin cfg1.N) : (ms1_6 t).IsWhole := hstage1_6 0
abbrev ms1_7 (t : Fin cfg1.N) : Memref sig .tc .vmem S34x34x512 .f32 := win1_7.stage (cfg1.slots t 7)
abbrev hs1_7 (t : Fin cfg1.N) : (ms1_7 t).IsWhole := hstage1_7 0
abbrev scM1_0 : Memref sig .tc .vmem S34x34x512 .f32 := Memref.whole cc1_scratch0

theorem scopedRest1_flat (c : Dev nD) :
    (Pipeline.scopedRest spec1 c : sProp 𝕄)
      = iprop((∃ f : Buf (Elt F) ((c : Thread nD τ).loc cc1_scratch0), ((c : Thread nD τ).loc cc1_scratch0) ↦{fullShare} f) ∗ Pipeline.scopedRestBut spec1 c [cc1_scratch0]) := by
  rw [scopedRest1_split]

theorem PhiA1_eq (c : Dev nD) :
    (Pipeline.ΦA spec1 c : sProp 𝕄)
      = iprop(iprop((∃ d, owns (c : Thread nD τ) scM1_0 fullShare d) ∗ Pipeline.scopedRestBut spec1 c [cc1_scratch0]) ∗ (∃ r, prngReg c r)) := by
  unfold Pipeline.ΦA; rw [scopedRest1_flat]; simp only [scM1_0, owns_whole]; try rfl

set_option maxHeartbeats 1000000 in
/-- The call run once on whole buffers: the pieces its stores leave in the output and in the scratch buffers, with the proof that the run ends holding them. -/
noncomputable def kernelRun1_A (c : Dev nD) (arg0 : Memref sig .tc .vmem S34x34x512 .f32) (harg0 : arg0.IsWhole) (arg1 : Memref sig .tc .vmem S9x512x512 .bf16) (harg1 : arg1.IsWhole) (arg2 : Memref sig .tc .vmem S9x512x512 .bf16) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S34x34x512 .f32) (harg7 : arg7.IsWhole) (arg8 : Memref sig .tc .vmem S34x34x512 .f32) (harg8 : arg8.IsWhole)
    (x0 : Vec F S34x34x512 .f32) (x1 : Vec F S9x512x512 .bf16) (x2 : Vec F S9x512x512 .bf16) (x3 : Vec F S1x512 .f32) (x4 : Vec F S1x512 .f32) (x5 : Vec F S1x512 .f32) (x6 : Vec F S1x512 .f32) :
    Σ' (L7 : List (View.Piece (Elt F) S34x34x512 .f32)), { LT0 : List (View.Piece (Elt F) S34x34x512 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f LT0)) -∗ K ⟨⟩))
          ⊢ wp frame (wpE (defs₀ (F := F)) Variants.none c none) E (cc1__block1_kernel arg0 harg0 arg1 harg1 arg2 harg2 arg3 harg3 arg4 harg4 arg5 harg5 arg6 harg6 arg7 harg7 arg8 harg8) K } := by
  refine ⟨?_, ?_, fun E K => ?run⟩
  case run =>
    simp only [cc1__block1_kernel_eq_skeleton]; unfold cc1__block1_kernel_skel
    simp only [k1_part1_eq_skeleton, k1_part2_eq_skeleton, k1_part3_eq_skeleton, k1_part4_eq_skeleton, k1_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    iexists _; iexact HS0

/-- The stored pieces cover the output. -/
theorem cover1_A_7 (c : Dev nD) (arg0 : Memref sig .tc .vmem S34x34x512 .f32) (harg0 : arg0.IsWhole) (arg1 : Memref sig .tc .vmem S9x512x512 .bf16) (harg1 : arg1.IsWhole) (arg2 : Memref sig .tc .vmem S9x512x512 .bf16) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S34x34x512 .f32) (harg7 : arg7.IsWhole) (arg8 : Memref sig .tc .vmem S34x34x512 .f32) (harg8 : arg8.IsWhole)
    (x0 : Vec F S34x34x512 .f32) (x1 : Vec F S9x512x512 .bf16) (x2 : Vec F S9x512x512 .bf16) (x3 : Vec F S1x512 .f32) (x4 : Vec F S1x512 .f32) (x5 : Vec F S1x512 .f32) (x6 : Vec F S1x512 .f32) (y : S34x34x512.Idx) :
    ∃ pc ∈ (kernelRun1_A c arg0 harg0 arg1 harg1 arg2 harg2 arg3 harg3 arg4 harg4 arg5 harg5 arg6 harg6 arg7 harg7 arg8 harg8 x0 x1 x2 x3 x4 x5 x6).1, y ∈ pc.1.set :=
  View.cover_of_wholeMem (kernelRun1_A c arg0 harg0 arg1 harg1 arg2 harg2 arg3 harg3 arg4 harg4 arg5 harg5 arg6 harg6 arg7 harg7 arg8 harg8 x0 x1 x2 x3 x4 x5 x6).1 (by sl_whole_mem) y

def out1_A_7 (c : Dev nD) (arg0 : Memref sig .tc .vmem S34x34x512 .f32) (harg0 : arg0.IsWhole) (arg1 : Memref sig .tc .vmem S9x512x512 .bf16) (harg1 : arg1.IsWhole) (arg2 : Memref sig .tc .vmem S9x512x512 .bf16) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S34x34x512 .f32) (harg7 : arg7.IsWhole) (arg8 : Memref sig .tc .vmem S34x34x512 .f32) (harg8 : arg8.IsWhole)
    (x0 : Vec F S34x34x512 .f32) (x1 : Vec F S9x512x512 .bf16) (x2 : Vec F S9x512x512 .bf16) (x3 : Vec F S1x512 .f32) (x4 : Vec F S1x512 .f32) (x5 : Vec F S1x512 .f32) (x6 : Vec F S1x512 .f32) : Vec F S34x34x512 .f32 :=
  VO1_7.read (Elt F) (VO1_7.writes (Elt F) VO1_7.junk (kernelRun1_A c arg0 harg0 arg1 harg1 arg2 harg2 arg3 harg3 arg4 harg4 arg5 harg5 arg6 harg6 arg7 harg7 arg8 harg8 x0 x1 x2 x3 x4 x5 x6).1)

/-- What the output holds after the one grid point. -/
def outsAt1 (c : Dev nD) (t : Fin cfg1.N) : Vec F S34x34x512 .f32 :=
  out1_A_7 c (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (iblk1 V c 0 t) (iblk1 V c 1 t) (iblk1 V c 2 t) (iblk1 V c 3 t) (iblk1 V c 4 t) (iblk1 V c 5 t) (iblk1 V c 6 t)

/-- What each window holds before and after the body. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t))

set_option maxHeartbeats 800000 in
/-- The body, run on the blocks of its windows. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  rw [show (dat1 V c).Φ t.castSucc = Pipeline.ΦA spec1 c from rfl, PhiA1_eq]
  unfold outsAt1
  unfold out1_A_7
  iintro ⟨⟨⟨HS0, HR1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun1_A c _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  iintro ⟨H0, H1, H2, H3, H4, H5, H6, ⟨%e7, H7⟩, ⟨%fT0, HS0⟩⟩
  isplitl [HS0 HR1 Hg]
  · isplitl [HS0 HR1]
    · isplitl [HS0]
      · iexists _; unfold owns; iexists _; isplitr
        swap; · iexact HS0
        ipureintro; rfl
      iexact HR1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover1_A_7 c _ _ _ _ _ _ _ _ _ _ _ _ _ _ _ _ _ _ _ _ _ _ _ _ _)

theorem defs₀_row1 (t : Fin cfg1.N) :
    defs₀ (F := F) .tc cfg1.body (cfg1.bodyArgs t (cfg1.slots t)) = bodyAt1 t := by
  unfold defs₀; rw [Defs.onTc_tc]

/-- The obligation of the body at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.HeadIdeal.Run
-- ==== Proof.HeadIdealFrame2.lean ====
/- The third call of the head: its one point runs, and what it leaves in its output. -/
module

public import proofs.«01_k».proof.Proof.Gen.HeadIdeal.Launch
public import proofs.«01_k».proof.Proof.Gen.HeadIdeal.Skeleton
public import proofs.«01_k».proof.Proof.Gen.HeadIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.HeadIdeal.Run

open Cert.HeadIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The block of a window, read off its array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

abbrev VO2_9 : View sig .tc .vmem S1x128 .f32 := (Memref.whole cc2_stg9_0 : Memref sig .tc .vmem S1x128 .f32).view
abbrev ms2_0 (t : Fin cfg2.N) : Memref sig .tc .vmem S34x34x512 .f32 := win2_0.stage (cfg2.slots t 0)
abbrev hs2_0 (t : Fin cfg2.N) : (ms2_0 t).IsWhole := hstage2_0 0
abbrev ms2_1 (t : Fin cfg2.N) : Memref sig .tc .vmem S9x512x512 .bf16 := win2_1.stage (cfg2.slots t 1)
abbrev hs2_1 (t : Fin cfg2.N) : (ms2_1 t).IsWhole := hstage2_1 0
abbrev ms2_2 (t : Fin cfg2.N) : Memref sig .tc .vmem S9x512x512 .bf16 := win2_2.stage (cfg2.slots t 2)
abbrev hs2_2 (t : Fin cfg2.N) : (ms2_2 t).IsWhole := hstage2_2 0
abbrev ms2_3 (t : Fin cfg2.N) : Memref sig .tc .vmem S1x512 .f32 := win2_3.stage (cfg2.slots t 3)
abbrev hs2_3 (t : Fin cfg2.N) : (ms2_3 t).IsWhole := hstage2_3 0
abbrev ms2_4 (t : Fin cfg2.N) : Memref sig .tc .vmem S1x512 .f32 := win2_4.stage (cfg2.slots t 4)
abbrev hs2_4 (t : Fin cfg2.N) : (ms2_4 t).IsWhole := hstage2_4 0
abbrev ms2_5 (t : Fin cfg2.N) : Memref sig .tc .vmem S1x512 .f32 := win2_5.stage (cfg2.slots t 5)
abbrev hs2_5 (t : Fin cfg2.N) : (ms2_5 t).IsWhole := hstage2_5 0
abbrev ms2_6 (t : Fin cfg2.N) : Memref sig .tc .vmem S1x512 .f32 := win2_6.stage (cfg2.slots t 6)
abbrev hs2_6 (t : Fin cfg2.N) : (ms2_6 t).IsWhole := hstage2_6 0
abbrev ms2_7 (t : Fin cfg2.N) : Memref sig .tc .vmem S512x128 .f32 := win2_7.stage (cfg2.slots t 7)
abbrev hs2_7 (t : Fin cfg2.N) : (ms2_7 t).IsWhole := hstage2_7 0
abbrev ms2_8 (t : Fin cfg2.N) : Memref sig .tc .vmem S1x128 .f32 := win2_8.stage (cfg2.slots t 8)
abbrev hs2_8 (t : Fin cfg2.N) : (ms2_8 t).IsWhole := hstage2_8 0
abbrev ms2_9 (t : Fin cfg2.N) : Memref sig .tc .vmem S1x128 .f32 := win2_9.stage (cfg2.slots t 9)
abbrev hs2_9 (t : Fin cfg2.N) : (ms2_9 t).IsWhole := hstage2_9 0
abbrev scM2_0 : Memref sig .tc .vmem S34x34x512 .f32 := Memref.whole cc2_scratch0

theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_scratch0), ((c : Thread nD τ).loc cc1_scratch0) ↦{fullShare} f) ∗ (∃ d, owns (c : Thread nD τ) scM2_0 fullShare d)) ∗ (∃ r, prngReg c r)) := by
  unfold Pipeline.ΦA; rw [scopedRest2_eq]; simp only [scM2_0, owns_whole]; try rfl

set_option maxHeartbeats 1000000 in
/-- The call run once on whole buffers: the pieces its stores leave in the output and in the scratch buffers, with the proof that the run ends holding them. -/
noncomputable def kernelRun2_A (c : Dev nD) (arg0 : Memref sig .tc .vmem S34x34x512 .f32) (harg0 : arg0.IsWhole) (arg1 : Memref sig .tc .vmem S9x512x512 .bf16) (harg1 : arg1.IsWhole) (arg2 : Memref sig .tc .vmem S9x512x512 .bf16) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S34x34x512 .f32) (harg10 : arg10.IsWhole)
    (x0 : Vec F S34x34x512 .f32) (x1 : Vec F S9x512x512 .bf16) (x2 : Vec F S9x512x512 .bf16) (x3 : Vec F S1x512 .f32) (x4 : Vec F S1x512 .f32) (x5 : Vec F S1x512 .f32) (x6 : Vec F S1x512 .f32) (x7 : Vec F S512x128 .f32) (x8 : Vec F S1x128 .f32) :
    Σ' (L9 : List (View.Piece (Elt F) S1x128 .f32)), { LT0 : List (View.Piece (Elt F) S34x34x512 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f LT0)) -∗ K ⟨⟩))
          ⊢ wp frame (wpE (defs₀ (F := F)) Variants.none c none) E (cc2__block2_kernel arg0 harg0 arg1 harg1 arg2 harg2 arg3 harg3 arg4 harg4 arg5 harg5 arg6 harg6 arg7 harg7 arg8 harg8 arg9 harg9 arg10 harg10) K } := by
  refine ⟨?_, ?_, fun E K => ?run⟩
  case run =>
    simp only [cc2__block2_kernel_eq_skeleton]; unfold cc2__block2_kernel_skel
    simp only [k2_part6_eq_skeleton]; unfold k2_part6_skel
    simp only [k2_part1_eq_skeleton, k2_part2_eq_skeleton, k2_part3_eq_skeleton, k2_part4_eq_skeleton, k2_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; iexact HS0

/-- The stored pieces cover the output. -/
theorem cover2_A_9 (c : Dev nD) (arg0 : Memref sig .tc .vmem S34x34x512 .f32) (harg0 : arg0.IsWhole) (arg1 : Memref sig .tc .vmem S9x512x512 .bf16) (harg1 : arg1.IsWhole) (arg2 : Memref sig .tc .vmem S9x512x512 .bf16) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S34x34x512 .f32) (harg10 : arg10.IsWhole)
    (x0 : Vec F S34x34x512 .f32) (x1 : Vec F S9x512x512 .bf16) (x2 : Vec F S9x512x512 .bf16) (x3 : Vec F S1x512 .f32) (x4 : Vec F S1x512 .f32) (x5 : Vec F S1x512 .f32) (x6 : Vec F S1x512 .f32) (x7 : Vec F S512x128 .f32) (x8 : Vec F S1x128 .f32) (y : S1x128.Idx) :
    ∃ pc ∈ (kernelRun2_A c arg0 harg0 arg1 harg1 arg2 harg2 arg3 harg3 arg4 harg4 arg5 harg5 arg6 harg6 arg7 harg7 arg8 harg8 arg9 harg9 arg10 harg10 x0 x1 x2 x3 x4 x5 x6 x7 x8).1, y ∈ pc.1.set :=
  View.cover_of_tiledL (kernelRun2_A c arg0 harg0 arg1 harg1 arg2 harg2 arg3 harg3 arg4 harg4 arg5 harg5 arg6 harg6 arg7 harg7 arg8 harg8 arg9 harg9 arg10 harg10 x0 x1 x2 x3 x4 x5 x6 x7 x8).1 S1x128.size (by sl_kernel_rfl) y

def out2_A_9 (c : Dev nD) (arg0 : Memref sig .tc .vmem S34x34x512 .f32) (harg0 : arg0.IsWhole) (arg1 : Memref sig .tc .vmem S9x512x512 .bf16) (harg1 : arg1.IsWhole) (arg2 : Memref sig .tc .vmem S9x512x512 .bf16) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S34x34x512 .f32) (harg10 : arg10.IsWhole)
    (x0 : Vec F S34x34x512 .f32) (x1 : Vec F S9x512x512 .bf16) (x2 : Vec F S9x512x512 .bf16) (x3 : Vec F S1x512 .f32) (x4 : Vec F S1x512 .f32) (x5 : Vec F S1x512 .f32) (x6 : Vec F S1x512 .f32) (x7 : Vec F S512x128 .f32) (x8 : Vec F S1x128 .f32) : Vec F S1x128 .f32 :=
  VO2_9.read (Elt F) (VO2_9.writes (Elt F) VO2_9.junk (kernelRun2_A c arg0 harg0 arg1 harg1 arg2 harg2 arg3 harg3 arg4 harg4 arg5 harg5 arg6 harg6 arg7 harg7 arg8 harg8 arg9 harg9 arg10 harg10 x0 x1 x2 x3 x4 x5 x6 x7 x8).1)

/-- What the output holds after the one grid point. -/
def outsAt2 (c : Dev nD) (t : Fin cfg2.N) : Vec F S1x128 .f32 :=
  out2_A_9 c (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) (iblk2 V c 0 t) (iblk2 V c 1 t) (iblk2 V c 2 t) (iblk2 V c 3 t) (iblk2 V c 4 t) (iblk2 V c 5 t) (iblk2 V c 6 t) (iblk2 V c 7 t) (iblk2 V c 8 t)

/-- What each window holds before and after the body. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => (outsAt2 V c t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = (outsAt2 V c t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t)
    ∗ owns (c : Thread nD τ) (ms2_8 t) fullShare ((dat2 V c).after 8 t)
    ∗ owns (c : Thread nD τ) (ms2_9 t) fullShare ((dat2 V c).after 9 t))

set_option maxHeartbeats 800000 in
/-- The body, run on the blocks of its windows. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  rw [show (dat2 V c).Φ t.castSucc = Pipeline.ΦA spec2 c from rfl, PhiA2_eq]
  unfold outsAt2
  unfold out2_A_9
  iintro ⟨⟨⟨HR0, HR1, HR2, HR3, HR4, HR5, HR6, HR7, HR8, HR9, HR10, HR11, HR12, HR13, HR14, HR15, HR16, HR17, HR18, HR19, HR20, HR21, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun2_A c _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  iintro ⟨H0, H1, H2, H3, H4, H5, H6, H7, H8, ⟨%e9, H9⟩, ⟨%fT0, HS0⟩⟩
  isplitl [HR0 HR1 HR2 HR3 HR4 HR5 HR6 HR7 HR8 HR9 HR10 HR11 HR12 HR13 HR14 HR15 HR16 HR17 HR18 HR19 HR20 HR21 HS0 Hg]
  · isplitl [HR0 HR1 HR2 HR3 HR4 HR5 HR6 HR7 HR8 HR9 HR10 HR11 HR12 HR13 HR14 HR15 HR16 HR17 HR18 HR19 HR20 HR21 HS0]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      isplitl [HR21]; · iexact HR21
      iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_of_cover _ _ _ _ _ (cover2_A_9 c _ _ _ _ _ _ _ _ _ _ _ _ _ _ _ _ _ _ _ _ _ _ _ _ _ _ _ _ _ _ _)

theorem defs₀_row2 (t : Fin cfg2.N) :
    defs₀ (F := F) .tc cfg2.body (cfg2.bodyArgs t (cfg2.slots t)) = bodyAt2 t := by
  unfold defs₀; rw [Defs.onTc_tc]

/-- The obligation of the body at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.HeadIdeal.Run
-- ==== Proof.HeadIdealFrame.lean ====
/- The whole run of the head: the host stretches and the three calls in order, every argument left as launched. -/
module

public import proofs.«01_k».proof.Proof.HeadIdealFrame0
public import proofs.«01_k».proof.Proof.HeadIdealFrame1
public import proofs.«01_k».proof.Proof.HeadIdealFrame2

@[expose] public section

set_option maxRecDepth 16384

noncomputable section

namespace Cert.HeadIdeal.Run

open Cert.HeadIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23]

theorem hostOps0_fresh : (hostOps0 : List (HloOp τ sig (Elt F))).Forall fun op => op.fresh = ∅ := by
  simp only [List.Forall]; repeat' constructor
abbrev hostOps0_W : List (Ref sig .tc) := [main_v0, main_v1, main_cst, main_v2, main_v3, main_v4, main_v5, main_v6, main_v7, main_v8, main_c]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps0_1_fresh : (hostOps0_1 : List (HloOp τ sig (Elt F))).Forall fun op => op.fresh = ∅ := by
  simp only [List.Forall]; repeat' constructor
abbrev hostOps0_1_W : List (Ref sig .tc) := [main_call0_v0, main_v9]
theorem hostOps0_1_writes : (hostOps0_1 : List (HloOp τ sig (Elt F))).Forall fun op => op.writes ⊆ (hostOps0_1_W.map (Proc.devRef (τ := τ) .tc)).toFinset :=
  StableHlo.forall_writes_sub_of_map rfl
theorem hostOps0_1_args : ∀ a ∈ argRefs, a ∉ hostOps0_1_W := ListAll.forall_mem_of_all_decide (by decide +kernel)

theorem hostOps0_2_fresh : (hostOps0_2 : List (HloOp τ sig (Elt F))).Forall fun op => op.fresh = ∅ := by
  simp only [List.Forall]; repeat' constructor
abbrev hostOps0_2_W : List (Ref sig .tc) := [main_v10, main_v11, main_v12, main_v13, main_c_0]
theorem hostOps0_2_writes : (hostOps0_2 : List (HloOp τ sig (Elt F))).Forall fun op => op.writes ⊆ (hostOps0_2_W.map (Proc.devRef (τ := τ) .tc)).toFinset :=
  StableHlo.forall_writes_sub_of_map rfl
theorem hostOps0_2_args : ∀ a ∈ argRefs, a ∉ hostOps0_2_W := ListAll.forall_mem_of_all_decide (by decide +kernel)

theorem hostOps0_3_fresh : (hostOps0_3 : List (HloOp τ sig (Elt F))).Forall fun op => op.fresh = ∅ := by
  simp only [List.Forall]; repeat' constructor
abbrev hostOps0_3_W : List (Ref sig .tc) := [main_call1_v0, main_v14]
theorem hostOps0_3_writes : (hostOps0_3 : List (HloOp τ sig (Elt F))).Forall fun op => op.writes ⊆ (hostOps0_3_W.map (Proc.devRef (τ := τ) .tc)).toFinset :=
  StableHlo.forall_writes_sub_of_map rfl
theorem hostOps0_3_args : ∀ a ∈ argRefs, a ∉ hostOps0_3_W := ListAll.forall_mem_of_all_decide (by decide +kernel)

theorem hostOps0_4_fresh : (hostOps0_4 : List (HloOp τ sig (Elt F))).Forall fun op => op.fresh = ∅ := by
  simp only [List.Forall]; repeat' constructor
abbrev hostOps0_4_W : List (Ref sig .tc) := [main_v15, main_v16, main_v17, main_v18, main_v19, main_v20, main_v21, main_v22, main_v23, main_v24]
theorem hostOps0_4_writes : (hostOps0_4 : List (HloOp τ sig (Elt F))).Forall fun op => op.writes ⊆ (hostOps0_4_W.map (Proc.devRef (τ := τ) .tc)).toFinset :=
  StableHlo.forall_writes_sub_of_map rfl
theorem hostOps0_4_args : ∀ a ∈ argRefs, a ∉ hostOps0_4_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_v26, main_v27, main_v28, main_v29, main_v30, main_v31, main_v32, main_v33, main_v34, main_v35, main_v36, main_v37]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_v39, main_c_1]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

theorem hostOps2_1_fresh : (hostOps2_1 : List (HloOp τ sig (Elt F))).Forall fun op => op.fresh = ∅ := by
  simp only [List.Forall]; repeat' constructor
abbrev hostOps2_1_W : List (Ref sig .tc) := [main_call2_v0, main_v40]
theorem hostOps2_1_writes : (hostOps2_1 : List (HloOp τ sig (Elt F))).Forall fun op => op.writes ⊆ (hostOps2_1_W.map (Proc.devRef (τ := τ) .tc)).toFinset :=
  StableHlo.forall_writes_sub_of_map rfl
theorem hostOps2_1_args : ∀ a ∈ argRefs, a ∉ hostOps2_1_W := ListAll.forall_mem_of_all_decide (by decide +kernel)

theorem hostOps2_2_fresh : (hostOps2_2 : List (HloOp τ sig (Elt F))).Forall fun op => op.fresh = ∅ := by
  simp only [List.Forall]; repeat' constructor
abbrev hostOps2_2_W : List (Ref sig .tc) := [main_v41, main_c_2]
theorem hostOps2_2_writes : (hostOps2_2 : List (HloOp τ sig (Elt F))).Forall fun op => op.writes ⊆ (hostOps2_2_W.map (Proc.devRef (τ := τ) .tc)).toFinset :=
  StableHlo.forall_writes_sub_of_map rfl
theorem hostOps2_2_args : ∀ a ∈ argRefs, a ∉ hostOps2_2_W := ListAll.forall_mem_of_all_decide (by decide +kernel)

theorem hostOps2_3_fresh : (hostOps2_3 : List (HloOp τ sig (Elt F))).Forall fun op => op.fresh = ∅ := by
  simp only [List.Forall]; repeat' constructor
abbrev hostOps2_3_W : List (Ref sig .tc) := [main_call3_v0, main_v42]
theorem hostOps2_3_writes : (hostOps2_3 : List (HloOp τ sig (Elt F))).Forall fun op => op.writes ⊆ (hostOps2_3_W.map (Proc.devRef (τ := τ) .tc)).toFinset :=
  StableHlo.forall_writes_sub_of_map rfl
theorem hostOps2_3_args : ∀ a ∈ argRefs, a ∉ hostOps2_3_W := ListAll.forall_mem_of_all_decide (by decide +kernel)

theorem hostOps2_4_fresh : (hostOps2_4 : List (HloOp τ sig (Elt F))).Forall fun op => op.fresh = ∅ := by
  simp only [List.Forall]; repeat' constructor
abbrev hostOps2_4_W : List (Ref sig .tc) := [main_v43, main_v44, main_v45, main_v46, main_v47, main_v48, main_v49, main_v50, main_v51, main_v52, main_v53, main_v54]
theorem hostOps2_4_writes : (hostOps2_4 : List (HloOp τ sig (Elt F))).Forall fun op => op.writes ⊆ (hostOps2_4_W.map (Proc.devRef (τ := τ) .tc)).toFinset :=
  StableHlo.forall_writes_sub_of_map rfl
theorem hostOps2_4_args : ∀ a ∈ argRefs, a ∉ hostOps2_4_W := ListAll.forall_mem_of_all_decide (by decide +kernel)

theorem hostOps3_fresh : (hostOps3 : List (HloOp τ sig (Elt F))).Forall fun op => op.fresh = ∅ := by
  simp only [List.Forall]; repeat' constructor
abbrev hostOps3_W : List (Ref sig .tc) := [main_v56, main_v57]
theorem hostOps3_writes : (hostOps3 : List (HloOp τ sig (Elt F))).Forall fun op => op.writes ⊆ (hostOps3_W.map (Proc.devRef (τ := τ) .tc)).toFinset :=
  StableHlo.forall_writes_sub_of_map rfl
theorem hostOps3_args : ∀ a ∈ argRefs, a ∉ hostOps3_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev W2 : Dev nD → Valuation τ sig (Elt F) := fun c => StableHlo.after hostOps0_1 (W1 m ρ c)
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
abbrev W3 : Dev nD → Valuation τ sig (Elt F) := fun c => StableHlo.after hostOps0_2 (W2 m ρ c)
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
abbrev W4 : Dev nD → Valuation τ sig (Elt F) := fun c => StableHlo.after hostOps0_3 (W3 m ρ c)
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W4_args (c : Dev nD) : ∀ a ∈ argRefs, W4 m ρ c (Proc.devRef .tc a) = m ((c : Thread nD τ).loc a) :=
  fun a ha => (W4_of m ρ c a (hostOps0_3_args a ha)).trans (W3_args m ρ c a ha)
abbrev W5 : Dev nD → Valuation τ sig (Elt F) := fun c => StableHlo.after hostOps0_4 (W4 m ρ c)
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W5_args (c : Dev nD) : ∀ a ∈ argRefs, W5 m ρ c (Proc.devRef .tc a) = m ((c : Thread nD τ).loc a) :=
  fun a ha => (W5_of m ρ c a (hostOps0_4_args a ha)).trans (W4_args m ρ c a ha)
abbrev V5 : (c : Dev nD) → (b : Ref sig .tc) → Buf (Elt F) ((c : Thread nD τ).loc b) := fun c b => W5 m ρ c b
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
theorem W6_of (c : Dev nD) (r : Ref sig .tc) (h : ∀ w : Fin cfg0.W, Pipeline.arrRef spec0 w = r → (cfg0.win w).isOut = false) :
    W6 m ρ c (Proc.devRef .tc r) = W5 m ρ c (Proc.devRef .tc r) := by
  by_cases hw : ∃ w : Fin cfg0.W, Pipeline.arrRef spec0 w = r
  · obtain ⟨w, rfl⟩ := hw
    exact (W6_arr m ρ c w).trans (((dat0 (V5 m ρ) c).arrAt_in w (h w rfl) _).trans (A_eq0 (V5 m ρ) c w))
  · exact W6_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn0 a ha)).trans (W5_args m ρ c a ha)
abbrev V6 : (c : Dev nD) → (b : Ref sig .tc) → Buf (Elt F) ((c : Thread nD τ).loc b) := fun c b => W6 m ρ c b
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps1 (W6 m ρ c)
theorem W7_of (c : Dev nD) (r : Ref sig .tc) (h : r ∉ hostOps1_W) : W7 m ρ c (Proc.devRef .tc r) = W6 m ρ c (Proc.devRef .tc r) :=
  StableHlo.after_of_writes_sub hostOps1 _ hostOps1_writes h
theorem W7_args (c : Dev nD) : ∀ a ∈ argRefs, W7 m ρ c (Proc.devRef .tc a) = m ((c : Thread nD τ).loc a) :=
  fun a ha => (W7_of m ρ c a (hostOps1_args a ha)).trans (W6_args m ρ c a ha)
abbrev V7 : (c : Dev nD) → (b : Ref sig .tc) → Buf (Elt F) ((c : Thread nD τ).loc b) := fun c b => W7 m ρ c b
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
theorem W8_of (c : Dev nD) (r : Ref sig .tc) (h : ∀ w : Fin cfg1.W, Pipeline.arrRef spec1 w = r → (cfg1.win w).isOut = false) :
    W8 m ρ c (Proc.devRef .tc r) = W7 m ρ c (Proc.devRef .tc r) := by
  by_cases hw : ∃ w : Fin cfg1.W, Pipeline.arrRef spec1 w = r
  · obtain ⟨w, rfl⟩ := hw
    exact (W8_arr m ρ c w).trans (((dat1 (V7 m ρ) c).arrAt_in w (h w rfl) _).trans (A_eq1 (V7 m ρ) c w))
  · exact W8_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn1 a ha)).trans (W7_args m ρ c a ha)
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps2 (W8 m ρ c)
theorem W9_of (c : Dev nD) (r : Ref sig .tc) (h : r ∉ hostOps2_W) : W9 m ρ c (Proc.devRef .tc r) = W8 m ρ c (Proc.devRef .tc r) :=
  StableHlo.after_of_writes_sub hostOps2 _ hostOps2_writes h
theorem W9_args (c : Dev nD) : ∀ a ∈ argRefs, W9 m ρ c (Proc.devRef .tc a) = m ((c : Thread nD τ).loc a) :=
  fun a ha => (W9_of m ρ c a (hostOps2_args a ha)).trans (W8_args m ρ c a ha)
abbrev W10 : Dev nD → Valuation τ sig (Elt F) := fun c => StableHlo.after hostOps2_1 (W9 m ρ c)
theorem W10_of (c : Dev nD) (r : Ref sig .tc) (h : r ∉ hostOps2_1_W) : W10 m ρ c (Proc.devRef .tc r) = W9 m ρ c (Proc.devRef .tc r) :=
  StableHlo.after_of_writes_sub hostOps2_1 _ hostOps2_1_writes h
theorem W10_args (c : Dev nD) : ∀ a ∈ argRefs, W10 m ρ c (Proc.devRef .tc a) = m ((c : Thread nD τ).loc a) :=
  fun a ha => (W10_of m ρ c a (hostOps2_1_args a ha)).trans (W9_args m ρ c a ha)
abbrev W11 : Dev nD → Valuation τ sig (Elt F) := fun c => StableHlo.after hostOps2_2 (W10 m ρ c)
theorem W11_of (c : Dev nD) (r : Ref sig .tc) (h : r ∉ hostOps2_2_W) : W11 m ρ c (Proc.devRef .tc r) = W10 m ρ c (Proc.devRef .tc r) :=
  StableHlo.after_of_writes_sub hostOps2_2 _ hostOps2_2_writes h
theorem W11_args (c : Dev nD) : ∀ a ∈ argRefs, W11 m ρ c (Proc.devRef .tc a) = m ((c : Thread nD τ).loc a) :=
  fun a ha => (W11_of m ρ c a (hostOps2_2_args a ha)).trans (W10_args m ρ c a ha)
abbrev W12 : Dev nD → Valuation τ sig (Elt F) := fun c => StableHlo.after hostOps2_3 (W11 m ρ c)
theorem W12_of (c : Dev nD) (r : Ref sig .tc) (h : r ∉ hostOps2_3_W) : W12 m ρ c (Proc.devRef .tc r) = W11 m ρ c (Proc.devRef .tc r) :=
  StableHlo.after_of_writes_sub hostOps2_3 _ hostOps2_3_writes h
theorem W12_args (c : Dev nD) : ∀ a ∈ argRefs, W12 m ρ c (Proc.devRef .tc a) = m ((c : Thread nD τ).loc a) :=
  fun a ha => (W12_of m ρ c a (hostOps2_3_args a ha)).trans (W11_args m ρ c a ha)
abbrev W13 : Dev nD → Valuation τ sig (Elt F) := fun c => StableHlo.after hostOps2_4 (W12 m ρ c)
theorem W13_of (c : Dev nD) (r : Ref sig .tc) (h : r ∉ hostOps2_4_W) : W13 m ρ c (Proc.devRef .tc r) = W12 m ρ c (Proc.devRef .tc r) :=
  StableHlo.after_of_writes_sub hostOps2_4 _ hostOps2_4_writes h
theorem W13_args (c : Dev nD) : ∀ a ∈ argRefs, W13 m ρ c (Proc.devRef .tc a) = m ((c : Thread nD τ).loc a) :=
  fun a ha => (W13_of m ρ c a (hostOps2_4_args a ha)).trans (W12_args m ρ c a ha)
abbrev V13 : (c : Dev nD) → (b : Ref sig .tc) → Buf (Elt F) ((c : Thread nD τ).loc b) := fun c b => W13 m ρ c b
def W14 (c : Dev nD) : Valuation τ sig (Elt F) :=
  Pipeline.withArrays spec2 c (W13 m ρ c) fun w => (dat2 (V13 m ρ) c).arrAt w cfg2.N
theorem W14_arr (c : Dev nD) (w : Fin cfg2.W) :
    W14 m ρ c (Proc.devRef .tc (Pipeline.arrRef spec2 w)) = (dat2 (V13 m ρ) c).arrAt w cfg2.N := by
  unfold W14; exact Pipeline.withArrays_arr spec2 launch2.win.arr_inj c _ _ w
theorem W14_of_ne (c : Dev nD) (b : Ref sig .tc) (hb : ∀ w, Pipeline.arrRef spec2 w ≠ b) :
    W14 m ρ c (Proc.devRef .tc b) = W13 m ρ c (Proc.devRef .tc b) := by
  unfold W14; exact Pipeline.withArrays_of_ne spec2 c _ _ b hb
theorem W14_of (c : Dev nD) (r : Ref sig .tc) (h : ∀ w : Fin cfg2.W, Pipeline.arrRef spec2 w = r → (cfg2.win w).isOut = false) :
    W14 m ρ c (Proc.devRef .tc r) = W13 m ρ c (Proc.devRef .tc r) := by
  by_cases hw : ∃ w : Fin cfg2.W, Pipeline.arrRef spec2 w = r
  · obtain ⟨w, rfl⟩ := hw
    exact (W14_arr m ρ c w).trans (((dat2 (V13 m ρ) c).arrAt_in w (h w rfl) _).trans (A_eq2 (V13 m ρ) c w))
  · exact W14_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W14_args (c : Dev nD) : ∀ a ∈ argRefs, W14 m ρ c (Proc.devRef .tc a) = m ((c : Thread nD τ).loc a) :=
  fun a ha => (W14_of m ρ c a (argsIn2 a ha)).trans (W13_args m ρ c a ha)
abbrev V14 : (c : Dev nD) → (b : Ref sig .tc) → Buf (Elt F) ((c : Thread nD τ).loc b) := fun c b => W14 m ρ c b
theorem hF2 (c : Dev nD) (w : Fin cfg2.W) : (dat2 (V13 m ρ) c).arrAt w cfg2.N = V14 m ρ c (Pipeline.arrRef spec2 w) :=
  (W14_arr m ρ c w).symm
theorem hrest2 (c : Dev nD) : ∀ b, b ∉ Finset.univ.image (Pipeline.arrRef spec2) → V14 m ρ c b = V13 m ρ c b :=
  fun b hb => W14_of_ne m ρ c b fun w e => hb (Finset.mem_image.mpr ⟨w, Finset.mem_univ _, e⟩)

abbrev W15 : Dev nD → Valuation τ sig (Elt F) := fun c => StableHlo.after hostOps3 (W14 m ρ c)
theorem W15_of (c : Dev nD) (r : Ref sig .tc) (h : r ∉ hostOps3_W) : W15 m ρ c (Proc.devRef .tc r) = W14 m ρ c (Proc.devRef .tc r) :=
  StableHlo.after_of_writes_sub hostOps3 _ hostOps3_writes h
theorem W15_args (c : Dev nD) : ∀ a ∈ argRefs, W15 m ρ c (Proc.devRef .tc a) = m ((c : Thread nD τ).loc a) :=
  fun a ha => (W15_of m ρ c a (hostOps3_args a ha)).trans (W14_args m ρ c a ha)

theorem W15_main_arg0 (c : Dev nD) : W15 m ρ c (Proc.devRef .tc main_arg0) = m ((c : Thread nD τ).loc main_arg0) :=
  W15_args m ρ c main_arg0 (by decide)
theorem W15_main_arg1 (c : Dev nD) : W15 m ρ c (Proc.devRef .tc main_arg1) = m ((c : Thread nD τ).loc main_arg1) :=
  W15_args m ρ c main_arg1 (by decide)
theorem W15_main_arg2 (c : Dev nD) : W15 m ρ c (Proc.devRef .tc main_arg2) = m ((c : Thread nD τ).loc main_arg2) :=
  W15_args m ρ c main_arg2 (by decide)
theorem W15_main_arg3 (c : Dev nD) : W15 m ρ c (Proc.devRef .tc main_arg3) = m ((c : Thread nD τ).loc main_arg3) :=
  W15_args m ρ c main_arg3 (by decide)
theorem W15_main_arg4 (c : Dev nD) : W15 m ρ c (Proc.devRef .tc main_arg4) = m ((c : Thread nD τ).loc main_arg4) :=
  W15_args m ρ c main_arg4 (by decide)
theorem W15_main_arg5 (c : Dev nD) : W15 m ρ c (Proc.devRef .tc main_arg5) = m ((c : Thread nD τ).loc main_arg5) :=
  W15_args m ρ c main_arg5 (by decide)
theorem W15_main_arg6 (c : Dev nD) : W15 m ρ c (Proc.devRef .tc main_arg6) = m ((c : Thread nD τ).loc main_arg6) :=
  W15_args m ρ c main_arg6 (by decide)
theorem W15_main_arg7 (c : Dev nD) : W15 m ρ c (Proc.devRef .tc main_arg7) = m ((c : Thread nD τ).loc main_arg7) :=
  W15_args m ρ c main_arg7 (by decide)
theorem W15_main_arg8 (c : Dev nD) : W15 m ρ c (Proc.devRef .tc main_arg8) = m ((c : Thread nD τ).loc main_arg8) :=
  W15_args m ρ c main_arg8 (by decide)
theorem W15_main_arg9 (c : Dev nD) : W15 m ρ c (Proc.devRef .tc main_arg9) = m ((c : Thread nD τ).loc main_arg9) :=
  W15_args m ρ c main_arg9 (by decide)
theorem W15_main_arg10 (c : Dev nD) : W15 m ρ c (Proc.devRef .tc main_arg10) = m ((c : Thread nD τ).loc main_arg10) :=
  W15_args m ρ c main_arg10 (by decide)
theorem W15_main_arg11 (c : Dev nD) : W15 m ρ c (Proc.devRef .tc main_arg11) = m ((c : Thread nD τ).loc main_arg11) :=
  W15_args m ρ c main_arg11 (by decide)
theorem W15_main_arg12 (c : Dev nD) : W15 m ρ c (Proc.devRef .tc main_arg12) = m ((c : Thread nD τ).loc main_arg12) :=
  W15_args m ρ c main_arg12 (by decide)
theorem W15_main_arg13 (c : Dev nD) : W15 m ρ c (Proc.devRef .tc main_arg13) = m ((c : Thread nD τ).loc main_arg13) :=
  W15_args m ρ c main_arg13 (by decide)
theorem W15_main_arg14 (c : Dev nD) : W15 m ρ c (Proc.devRef .tc main_arg14) = m ((c : Thread nD τ).loc main_arg14) :=
  W15_args m ρ c main_arg14 (by decide)
theorem W15_main_arg15 (c : Dev nD) : W15 m ρ c (Proc.devRef .tc main_arg15) = m ((c : Thread nD τ).loc main_arg15) :=
  W15_args m ρ c main_arg15 (by decide)
theorem W15_main_arg16 (c : Dev nD) : W15 m ρ c (Proc.devRef .tc main_arg16) = m ((c : Thread nD τ).loc main_arg16) :=
  W15_args m ρ c main_arg16 (by decide)
theorem W15_main_arg17 (c : Dev nD) : W15 m ρ c (Proc.devRef .tc main_arg17) = m ((c : Thread nD τ).loc main_arg17) :=
  W15_args m ρ c main_arg17 (by decide)
theorem W15_main_arg18 (c : Dev nD) : W15 m ρ c (Proc.devRef .tc main_arg18) = m ((c : Thread nD τ).loc main_arg18) :=
  W15_args m ρ c main_arg18 (by decide)
theorem W15_main_arg19 (c : Dev nD) : W15 m ρ c (Proc.devRef .tc main_arg19) = m ((c : Thread nD τ).loc main_arg19) :=
  W15_args m ρ c main_arg19 (by decide)
theorem W15_main_arg20 (c : Dev nD) : W15 m ρ c (Proc.devRef .tc main_arg20) = m ((c : Thread nD τ).loc main_arg20) :=
  W15_args m ρ c main_arg20 (by decide)
theorem W15_main_arg21 (c : Dev nD) : W15 m ρ c (Proc.devRef .tc main_arg21) = m ((c : Thread nD τ).loc main_arg21) :=
  W15_args m ρ c main_arg21 (by decide)
theorem W15_main_arg22 (c : Dev nD) : W15 m ρ c (Proc.devRef .tc main_arg22) = m ((c : Thread nD τ).loc main_arg22) :=
  W15_args m ρ c main_arg22 (by decide)
theorem W15_main_arg23 (c : Dev nD) : W15 m ρ c (Proc.devRef .tc main_arg23) = m ((c : Thread nD τ).loc main_arg23) :=
  W15_args m ρ c main_arg23 (by decide)

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) c
  | ⟨2, _⟩ => fun c => dat2 (V13 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W15 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) (A_eq0 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) (A_eq1 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V13 m ρ) c).loose
  hwaits := Pipeline.hwaits_of_owed_zero _ _ _ _ L lv 2 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec2 c (V13 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V13 m ρ c) (A_eq2 (V13 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V13 m ρ c) (V14 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .host (hseg hostOps2 hostOps2_sub hostOps2_fresh (W8 m ρ)),
    .host (hseg hostOps2_1 hostOps2_1_sub hostOps2_1_fresh (W9 m ρ)),
    .host (hseg hostOps2_2 hostOps2_2_sub hostOps2_2_fresh (W10 m ρ)),
    .host (hseg hostOps2_3 hostOps2_3_sub hostOps2_3_fresh (W11 m ρ)),
    .host (hseg hostOps2_4 hostOps2_4_sub hostOps2_4_fresh (W12 m ρ)),
    .region (reg2 m ρ),
    .host (hseg hostOps3 hostOps3_sub hostOps3_fresh (W14 m ρ)) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- The program runs, every buffer that outlives it ends at its contents after the last line, and every counter ends at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W15 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h hz => ⟨h, funext fun g => hz g (.inr (no_unscoped g.2))⟩)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23))
      ∧ r.2.sem = fun _ => 0) :=
  (θ_run defs _ _).mono (fun _ ⟨h, hz⟩ => ⟨(fun c =>
      ⟨(h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c),
       (h c _ (mem_uc main_arg15 (by decide))).trans (W15_main_arg15 m ρ c),
       (h c _ (mem_uc main_arg16 (by decide))).trans (W15_main_arg16 m ρ c),
       (h c _ (mem_uc main_arg17 (by decide))).trans (W15_main_arg17 m ρ c),
       (h c _ (mem_uc main_arg18 (by decide))).trans (W15_main_arg18 m ρ c),
       (h c _ (mem_uc main_arg19 (by decide))).trans (W15_main_arg19 m ρ c),
       (h c _ (mem_uc main_arg20 (by decide))).trans (W15_main_arg20 m ρ c),
       (h c _ (mem_uc main_arg21 (by decide))).trans (W15_main_arg21 m ρ c),
       (h c _ (mem_uc main_arg22 (by decide))).trans (W15_main_arg22 m ρ c),
       (h c _ (mem_uc main_arg23 (by decide))).trans (W15_main_arg23 m ρ c)⟩), hz⟩) (run m ρ)

end Cert.HeadIdeal.Run

end
-- ==== Proof.HeadIdealArrays.lean ====
/- The operands and results of the head's three calls as whole arrays: each call has one grid point, whose blocks are the arrays. -/
module

public import proofs.«01_k».proof.Proof.HeadIdealFrame
public import Idealize.ShloMosaic.Lib.Pipeline.ValueKit

@[expose] public section

set_option maxRecDepth 16384

noncomputable section

namespace Cert.HeadIdeal.Arrays

open Idealize.ShloMosaic Idealize.ShloMosaic.TcCoe Idealize.SL.Sem
open Cert.HeadIdeal Cert.HeadIdeal.Gen Cert.HeadIdeal.Run

variable (V : (c : Dev nD) → (b : Ref sig .tc) → Buf (Elt Ideal) ((c : Thread nD τ).loc b)) (c : Dev nD)

/-! Call 0. -/

theorem idx0_0 : ∀ t : Fin cfg0.N, win0_0.index t = ![0, 0, 0] := (by decide +kernel : ∀ t : Fin grid0.N, _)
theorem in0_0 (t : Fin cfg0.N) (a : Fin 64) (b : Fin 64) (d : Fin 264) : iblk0 V c 0 t (ix3 a b d) = V c main_v6 (ix3 a b d) := by
  blk_ext [iblk0, idx0_0 t]
theorem idx0_1 : ∀ t : Fin cfg0.N, win0_1.index t = ![0, 0, 0] := (by decide +kernel : ∀ t : Fin grid0.N, _)
theorem in0_1 (t : Fin cfg0.N) (a : Fin 9) (b : Fin 512) (d : Fin 264) : iblk0 V c 1 t (ix3 a b d) = V c main_v14 (ix3 a b d) := by
  blk_ext [iblk0, idx0_1 t]
theorem idx0_2 : ∀ t : Fin cfg0.N, win0_2.index t = ![0, 0, 0] := (by decide +kernel : ∀ t : Fin grid0.N, _)
theorem in0_2 (t : Fin cfg0.N) (a : Fin 9) (b : Fin 512) (d : Fin 512) : iblk0 V c 2 t (ix3 a b d) = V c main_v18 (ix3 a b d) := by
  blk_ext [iblk0, idx0_2 t]
theorem idx0_3 : ∀ t : Fin cfg0.N, win0_3.index t = ![0, 0] := (by decide +kernel : ∀ t : Fin grid0.N, _)
theorem in0_3 (t : Fin cfg0.N) (a : Fin 512) (b : Fin 264) : iblk0 V c 3 t (ix2 a b) = V c main_v9 (ix2 a b) := by
  blk_ext [iblk0, idx0_3 t]
theorem idx0_4 : ∀ t : Fin cfg0.N, win0_4.index t = ![0, 0] := (by decide +kernel : ∀ t : Fin grid0.N, _)
theorem in0_4 (t : Fin cfg0.N) (a : Fin 1) (b : Fin 512) : iblk0 V c 4 t (ix2 a b) = V c main_v19 (ix2 a b) := by
  blk_ext [iblk0, idx0_4 t]
theorem idx0_5 : ∀ t : Fin cfg0.N, win0_5.index t = ![0, 0] := (by decide +kernel : ∀ t : Fin grid0.N, _)
theorem in0_5 (t : Fin cfg0.N) (a : Fin 1) (b : Fin 512) : iblk0 V c 5 t (ix2 a b) = V c main_v20 (ix2 a b) := by
  blk_ext [iblk0, idx0_5 t]
theorem idx0_6 : ∀ t : Fin cfg0.N, win0_6.index t = ![0, 0] := (by decide +kernel : ∀ t : Fin grid0.N, _)
theorem in0_6 (t : Fin cfg0.N) (a : Fin 1) (b : Fin 512) : iblk0 V c 6 t (ix2 a b) = V c main_v21 (ix2 a b) := by
  blk_ext [iblk0, idx0_6 t]
theorem idx0_7 : ∀ t : Fin cfg0.N, win0_7.index t = ![0, 0] := (by decide +kernel : ∀ t : Fin grid0.N, _)
theorem in0_7 (t : Fin cfg0.N) (a : Fin 1) (b : Fin 512) : iblk0 V c 7 t (ix2 a b) = V c main_v22 (ix2 a b) := by
  blk_ext [iblk0, idx0_7 t]
theorem idx0_8 : ∀ t : Fin cfg0.N, win0_8.index t = ![0, 0] := (by decide +kernel : ∀ t : Fin grid0.N, _)
theorem in0_8 (t : Fin cfg0.N) (a : Fin 1) (b : Fin 512) : iblk0 V c 8 t (ix2 a b) = V c main_v23 (ix2 a b) := by
  blk_ext [iblk0, idx0_8 t]
theorem idx0_9 : ∀ t : Fin cfg0.N, win0_9.index t = ![0, 0] := (by decide +kernel : ∀ t : Fin grid0.N, _)
theorem in0_9 (t : Fin cfg0.N) (a : Fin 1) (b : Fin 512) : iblk0 V c 9 t (ix2 a b) = V c main_v24 (ix2 a b) := by
  blk_ext [iblk0, idx0_9 t]

/-- The call's result array is what its one point leaves. -/
theorem arr0 : (dat0 V c).arrAt 10 cfg0.N = outsAt0 V c ⟨0, by decide⟩ := by
  refine (dat0 V c).arrAt_eq_of_covers 10 _ (by decide +kernel) fun t hf y => ?_
  blk_simp
  rw [after0_10, show t = ⟨0, by decide⟩ from Subsingleton.elim (α := Fin 1) _ _]
  refine congrArg (outsAt0 V c ⟨0, by decide⟩) ?_
  funext a
  apply Fin.ext
  blk_simp
  have e : win0_10.index ⟨0, by decide⟩ a = 0 := (by decide +kernel : ∀ a : Fin 3, win0_10.index ⟨0, by decide⟩ a = 0) a
  exact (Nat.zero_add _).symm.trans (congrArg (· + (y a).val) ((Nat.zero_mul _).symm.trans (congrArg (· * win0_10.size a) e.symm)))

/-! Call 1. -/

theorem idx1_0 : ∀ t : Fin cfg1.N, win1_0.index t = ![0, 0, 0] := (by decide +kernel : ∀ t : Fin grid1.N, _)
theorem in1_0 (t : Fin cfg1.N) (a : Fin 34) (b : Fin 34) (d : Fin 512) : iblk1 V c 0 t (ix3 a b d) = V c main_v25 (ix3 a b d) := by
  blk_ext [iblk1, idx1_0 t]
theorem idx1_1 : ∀ t : Fin cfg1.N, win1_1.index t = ![0, 0, 0] := (by decide +kernel : ∀ t : Fin grid1.N, _)
theorem in1_1 (t : Fin cfg1.N) (a : Fin 9) (b : Fin 512) (d : Fin 512) : iblk1 V c 1 t (ix3 a b d) = V c main_v29 (ix3 a b d) := by
  blk_ext [iblk1, idx1_1 t]
theorem idx1_2 : ∀ t : Fin cfg1.N, win1_2.index t = ![0, 0, 0] := (by decide +kernel : ∀ t : Fin grid1.N, _)
theorem in1_2 (t : Fin cfg1.N) (a : Fin 9) (b : Fin 512) (d : Fin 512) : iblk1 V c 2 t (ix3 a b d) = V c main_v33 (ix3 a b d) := by
  blk_ext [iblk1, idx1_2 t]
theorem idx1_3 : ∀ t : Fin cfg1.N, win1_3.index t = ![0, 0] := (by decide +kernel : ∀ t : Fin grid1.N, _)
theorem in1_3 (t : Fin cfg1.N) (a : Fin 1) (b : Fin 512) : iblk1 V c 3 t (ix2 a b) = V c main_v34 (ix2 a b) := by
  blk_ext [iblk1, idx1_3 t]
theorem idx1_4 : ∀ t : Fin cfg1.N, win1_4.index t = ![0, 0] := (by decide +kernel : ∀ t : Fin grid1.N, _)
theorem in1_4 (t : Fin cfg1.N) (a : Fin 1) (b : Fin 512) : iblk1 V c 4 t (ix2 a b) = V c main_v35 (ix2 a b) := by
  blk_ext [iblk1, idx1_4 t]
theorem idx1_5 : ∀ t : Fin cfg1.N, win1_5.index t = ![0, 0] := (by decide +kernel : ∀ t : Fin grid1.N, _)
theorem in1_5 (t : Fin cfg1.N) (a : Fin 1) (b : Fin 512) : iblk1 V c 5 t (ix2 a b) = V c main_v36 (ix2 a b) := by
  blk_ext [iblk1, idx1_5 t]
theorem idx1_6 : ∀ t : Fin cfg1.N, win1_6.index t = ![0, 0] := (by decide +kernel : ∀ t : Fin grid1.N, _)
theorem in1_6 (t : Fin cfg1.N) (a : Fin 1) (b : Fin 512) : iblk1 V c 6 t (ix2 a b) = V c main_v37 (ix2 a b) := by
  blk_ext [iblk1, idx1_6 t]

/-- The call's result array is what its one point leaves. -/
theorem arr1 : (dat1 V c).arrAt 7 cfg1.N = outsAt1 V c ⟨0, by decide⟩ := by
  refine (dat1 V c).arrAt_eq_of_covers 7 _ (by decide +kernel) fun t hf y => ?_
  blk_simp
  rw [after1_7, show t = ⟨0, by decide⟩ from Subsingleton.elim (α := Fin 1) _ _]
  refine congrArg (outsAt1 V c ⟨0, by decide⟩) ?_
  funext a
  apply Fin.ext
  blk_simp
  have e : win1_7.index ⟨0, by decide⟩ a = 0 := (by decide +kernel : ∀ a : Fin 3, win1_7.index ⟨0, by decide⟩ a = 0) a
  exact (Nat.zero_add _).symm.trans (congrArg (· + (y a).val) ((Nat.zero_mul _).symm.trans (congrArg (· * win1_7.size a) e.symm)))

/-! Call 2. -/

theorem idx2_0 : ∀ t : Fin cfg2.N, win2_0.index t = ![0, 0, 0] := (by decide +kernel : ∀ t : Fin grid2.N, _)
theorem in2_0 (t : Fin cfg2.N) (a : Fin 34) (b : Fin 34) (d : Fin 512) : iblk2 V c 0 t (ix3 a b d) = V c main_v38 (ix3 a b d) := by
  blk_ext [iblk2, idx2_0 t]
theorem idx2_1 : ∀ t : Fin cfg2.N, win2_1.index t = ![0, 0, 0] := (by decide +kernel : ∀ t : Fin grid2.N, _)
theorem in2_1 (t : Fin cfg2.N) (a : Fin 9) (b : Fin 512) (d : Fin 512) : iblk2 V c 1 t (ix3 a b d) = V c main_v46 (ix3 a b d) := by
  blk_ext [iblk2, idx2_1 t]
theorem idx2_2 : ∀ t : Fin cfg2.N, win2_2.index t = ![0, 0, 0] := (by decide +kernel : ∀ t : Fin grid2.N, _)
theorem in2_2 (t : Fin cfg2.N) (a : Fin 9) (b : Fin 512) (d : Fin 512) : iblk2 V c 2 t (ix3 a b d) = V c main_v50 (ix3 a b d) := by
  blk_ext [iblk2, idx2_2 t]
theorem idx2_3 : ∀ t : Fin cfg2.N, win2_3.index t = ![0, 0] := (by decide +kernel : ∀ t : Fin grid2.N, _)
theorem in2_3 (t : Fin cfg2.N) (a : Fin 1) (b : Fin 512) : iblk2 V c 3 t (ix2 a b) = V c main_v51 (ix2 a b) := by
  blk_ext [iblk2, idx2_3 t]
theorem idx2_4 : ∀ t : Fin cfg2.N, win2_4.index t = ![0, 0] := (by decide +kernel : ∀ t : Fin grid2.N, _)
theorem in2_4 (t : Fin cfg2.N) (a : Fin 1) (b : Fin 512) : iblk2 V c 4 t (ix2 a b) = V c main_v52 (ix2 a b) := by
  blk_ext [iblk2, idx2_4 t]
theorem idx2_5 : ∀ t : Fin cfg2.N, win2_5.index t = ![0, 0] := (by decide +kernel : ∀ t : Fin grid2.N, _)
theorem in2_5 (t : Fin cfg2.N) (a : Fin 1) (b : Fin 512) : iblk2 V c 5 t (ix2 a b) = V c main_v53 (ix2 a b) := by
  blk_ext [iblk2, idx2_5 t]
theorem idx2_6 : ∀ t : Fin cfg2.N, win2_6.index t = ![0, 0] := (by decide +kernel : ∀ t : Fin grid2.N, _)
theorem in2_6 (t : Fin cfg2.N) (a : Fin 1) (b : Fin 512) : iblk2 V c 6 t (ix2 a b) = V c main_v54 (ix2 a b) := by
  blk_ext [iblk2, idx2_6 t]
theorem idx2_7 : ∀ t : Fin cfg2.N, win2_7.index t = ![0, 0] := (by decide +kernel : ∀ t : Fin grid2.N, _)
theorem in2_7 (t : Fin cfg2.N) (a : Fin 512) (b : Fin 128) : iblk2 V c 7 t (ix2 a b) = V c main_v40 (ix2 a b) := by
  blk_ext [iblk2, idx2_7 t]
theorem idx2_8 : ∀ t : Fin cfg2.N, win2_8.index t = ![0, 0] := (by decide +kernel : ∀ t : Fin grid2.N, _)
theorem in2_8 (t : Fin cfg2.N) (a : Fin 1) (b : Fin 128) : iblk2 V c 8 t (ix2 a b) = V c main_v42 (ix2 a b) := by
  blk_ext [iblk2, idx2_8 t]

/-- The call's result array is what its one point leaves. -/
theorem arr2 : (dat2 V c).arrAt 9 cfg2.N = outsAt2 V c ⟨0, by decide⟩ := by
  refine (dat2 V c).arrAt_eq_of_covers 9 _ (by decide +kernel) fun t hf y => ?_
  blk_simp
  rw [after2_9, show t = ⟨0, by decide⟩ from Subsingleton.elim (α := Fin 1) _ _]
  refine congrArg (outsAt2 V c ⟨0, by decide⟩) ?_
  funext a
  apply Fin.ext
  blk_simp
  have e : win2_9.index ⟨0, by decide⟩ a = 0 := (by decide +kernel : ∀ a : Fin 2, win2_9.index ⟨0, by decide⟩ a = 0) a
  exact (Nat.zero_add _).symm.trans (congrArg (· + (y a).val) ((Nat.zero_mul _).symm.trans (congrArg (· * win2_9.size a) e.symm)))

end Cert.HeadIdeal.Arrays
end
-- ==== Proof.HeadMath.lean ====
/- Images with a border of zeros, convolutions of three by three as sums of nine taps, and what a store inside a zero fill leaves. -/
module

public import Idealize.ShloMosaic.Lib.Pointwise
public import Idealize.ShloMosaic.Lib.Pipeline.ValueKit
public import Idealize.ShloMosaic.Lib.Pipeline.ReadBack

@[expose] public section

set_option maxRecDepth 16384

noncomputable section

namespace Cert.HeadMath

open Idealize.ShloMosaic Idealize.ShloMosaic.Tactic

/-- An image with a border of zeros around it, at a position of the bordered image. -/
def padded {C n : ℕ} (y : Fin n → Fin n → Fin C → EReal) (r s : ℕ) (i : Fin C) : EReal :=
  if h : (1 ≤ r ∧ r ≤ n) ∧ (1 ≤ s ∧ s ≤ n) then y ⟨r - 1, by omega⟩ ⟨s - 1, by omega⟩ i else 0

theorem padded_inside {C n : ℕ} (y : Fin n → Fin n → Fin C → EReal) (a b : Fin n) (i : Fin C) :
    padded y (a.val + 1) (b.val + 1) i = y a b i := by
  unfold padded
  rw [dif_pos ⟨⟨by omega, by omega⟩, by omega, by omega⟩]
  rfl

/-- One tap of a convolution: the channels of one position against one matrix of weights. -/
def tap {C : ℕ} (X : ℕ → ℕ → Fin C → EReal) (w : Fin 512 → Fin C → EReal) (r s : ℕ) (o : Fin 512) : EReal :=
  ∑ i : Fin C, X r s i * w o i

/-- A convolution of three by three at stride `t`, the nine taps added in order. -/
def conv {C : ℕ} (X : ℕ → ℕ → Fin C → EReal) (w : Fin 9 → Fin 512 → Fin C → EReal) (t h v : ℕ) (o : Fin 512) : EReal :=
  tap X (w 0) (t * h) (t * v) o + tap X (w 1) (t * h) (t * v + 1) o + tap X (w 2) (t * h) (t * v + 2) o
    + tap X (w 3) (t * h + 1) (t * v) o + tap X (w 4) (t * h + 1) (t * v + 1) o + tap X (w 5) (t * h + 1) (t * v + 2) o
    + tap X (w 6) (t * h + 2) (t * v) o + tap X (w 7) (t * h + 2) (t * v + 1) o + tap X (w 8) (t * h + 2) (t * v + 2) o

/-- Scale, shift and cut off below at zero. -/
def act (A : ℕ → ℕ → Fin 512 → EReal) (s c : Fin 512 → EReal) (h v : Fin 32) (o : Fin 512) : EReal :=
  max (A h.val v.val o * s o + c o) 0

/-- Scale and shift, add a second image, cut off below at zero. -/
def actAdd (A : ℕ → ℕ → Fin 512 → EReal) (s c : Fin 512 → EReal) (y : Fin 32 → Fin 32 → Fin 512 → EReal) (h v : Fin 32) (o : Fin 512) : EReal :=
  max (A h.val v.val o * s o + c o + y h v o) 0

/-- A block of two convolutions at stride one whose own input is added back before the last cut. -/
def block (w₁ w₂ : Fin 9 → Fin 512 → Fin 512 → EReal) (s₁ c₁ s₂ c₂ : Fin 512 → EReal) (y : Fin 32 → Fin 32 → Fin 512 → EReal) :
    Fin 32 → Fin 32 → Fin 512 → EReal :=
  actAdd (conv (padded (act (conv (padded y) w₁ 1) s₁ c₁)) w₂ 1) s₂ c₂ y

abbrev Big : Shape := ⟨3, ![34, 34, 512]⟩
abbrev Small : Shape := ⟨3, ![32, 32, 512]⟩

/-- A store of the inside over a fill with zeros leaves the image with its border. -/
theorem canon_padded (inb : ∀ a, ![1, 1, 0] a + ![32, 32, 512] a ≤ Big.size a) (inb' : ∀ a, ![0, 0, 0] a + ![34, 34, 512] a ≤ Big.size a)
    (y : FVec Ideal Small .f32) (z : FVec Ideal Big .f32) (hz : ∀ j, z j = (0 : EReal)) (r s : Fin 34) (i : Fin 512) :
    View.canon (Val := Elt Ideal) (e := .f32) (s := Big) [⟨Rect.unit ![1, 1, 0] ![32, 32, 512] inb, y⟩, ⟨Rect.unit ![0, 0, 0] ![34, 34, 512] inb', z⟩] (ix3 r s i)
      = padded (fun a b k => y (ix3 a b k)) r.val s.val i := by
  unfold padded
  split
  · rename_i h
    have e : (ix3 r s i : Big.Idx) = (Rect.unit (s := Big) ![1, 1, 0] ![32, 32, 512] inb).emb (ix3 (⟨r.val - 1, by omega⟩ : Fin 32) (⟨s.val - 1, by omega⟩ : Fin 32) i) := by
      refine (Rect.emb_eq_of_coords _ _ _ fun a => ?_).symm
      fin_cases a
      · change r.val = 1 + 1 * (r.val - 1)
        omega
      · change s.val = 1 + 1 * (s.val - 1)
        omega
      · change i.val = 0 + 1 * i.val
        omega
    rw [e, View.canon_cons_emb]
  · rename_i h
    rw [View.canon_cons_of_not_mem, View.canon_cons_unit_lit _ _ _ (by decide)]
    · exact hz _
    · intro hm
      obtain ⟨x, hx⟩ := LoadRect.exists_idx_of_mem _ hm
      apply h
      have h0 := congrArg (fun f => (f 0).val) hx
      have h1 := congrArg (fun f => (f 1).val) hx
      have l0 : (x 0).val < 32 := (x 0).isLt
      have l1 : (x 1).val < 32 := (x 1).isLt
      simp [Rect.unit] at h0 h1
      omega

/-- The same, of contents given a name and of an inside told position by position. -/
theorem padded_of_canon {inb : ∀ a, ![1, 1, 0] a + ![32, 32, 512] a ≤ Big.size a} {inb' : ∀ a, ![0, 0, 0] a + ![34, 34, 512] a ≤ Big.size a}
    {y : FVec Ideal Small .f32} {z : FVec Ideal Big .f32} {Y : FVec Ideal Big .f32} (f : Fin 32 → Fin 32 → Fin 512 → EReal)
    (hY : View.canon (Val := Elt Ideal) (e := .f32) (s := Big) [⟨Rect.unit ![1, 1, 0] ![32, 32, 512] inb, y⟩, ⟨Rect.unit ![0, 0, 0] ![34, 34, 512] inb', z⟩] = Y)
    (hz : ∀ j, z j = (0 : EReal)) (hy : ∀ a b k, y (ix3 a b k) = f a b k) (r s : Fin 34) (i : Fin 512) :
    Y (ix3 r s i) = padded f r.val s.val i := by
  rw [← hY, canon_padded inb inb' y z hz]
  congr 1
  funext a b k
  exact hy a b k

end Cert.HeadMath
-- ==== Proof.HeadPhases.lean ====
/- A bordered image of side sixty-six cut into its four phases: even and odd rows, even and odd columns. -/
module

public import proofs.«01_k».proof.Proof.HeadMath

@[expose] public section

set_option maxRecDepth 16384

noncomputable section

namespace Cert.HeadMath

open Idealize.ShloMosaic Idealize.ShloMosaic.Tactic

abbrev Phases : Shape := ⟨4, ![4, 33, 33, 264]⟩
abbrev Phase : Shape := ⟨4, ![1, 32, 33, 264]⟩

/-- One store of thirty-two rows of one phase: where it holds the position its payload is read, elsewhere the stores before it. -/
theorem canon_phase {k a : ℕ} (ha : a ≤ 1) (inb : ∀ i, ![k, a, 0, 0] i + ![1, 32, 33, 264] i ≤ Phases.size i) (y : FVec Ideal Phase .bf16)
    (L : List (View.Piece (Elt Ideal) Phases .bf16)) (p : Fin 4) (r c : Fin 33) (i : Fin 264) :
    View.canon (⟨Rect.unit ![k, a, 0, 0] ![1, 32, 33, 264] inb, y⟩ :: L) (ix4 p r c i)
      = if h : p.val = k ∧ a ≤ r.val ∧ r.val < a + 32 then y (ix4 0 (⟨r.val - a, by omega⟩ : Fin 32) c i) else View.canon L (ix4 p r c i) := by
  split
  · rename_i h
    have e : (ix4 p r c i : Phases.Idx) = (Rect.unit (s := Phases) ![k, a, 0, 0] ![1, 32, 33, 264] inb).emb (ix4 (0 : Fin 1) (⟨r.val - a, by omega⟩ : Fin 32) c i) := by
      refine (Rect.emb_eq_of_coords _ _ _ fun b => ?_).symm
      fin_cases b
      · change p.val = k + 1 * 0
        omega
      · change r.val = a + 1 * (r.val - a)
        omega
      · change c.val = 0 + 1 * c.val
        omega
      · change i.val = 0 + 1 * i.val
        omega
    rw [e, View.canon_cons_emb]
  · rename_i h
    rw [View.canon_cons_of_not_mem]
    intro hm
    obtain ⟨x, hx⟩ := LoadRect.exists_idx_of_mem _ hm
    apply h
    have h0 := congrArg (fun f => (f 0).val) hx
    have h1 := congrArg (fun f => (f 1).val) hx
    have l0 : (x 0).val < 1 := (x 0).isLt
    have l1 : (x 1).val < 32 := (x 1).isLt
    simp [Rect.unit] at h0 h1
    omega

/-- A position of the image itself, read in its border. -/
theorem padded_at {C n : ℕ} (x : Fin n → Fin n → Fin C → EReal) (a b : Fin n) (i : Fin C) {r s : ℕ} (hr : r = a.val + 1) (hs : s = b.val + 1) :
    padded x r s i = x a b i := by
  subst hr hs
  exact padded_inside x a b i

/-- A position of the border. -/
theorem padded_out {C n : ℕ} (x : Fin n → Fin n → Fin C → EReal) {r s : ℕ} (i : Fin C) (h : r = 0 ∨ n < r ∨ s = 0 ∨ n < s) :
    padded x r s i = 0 := by
  unfold padded
  rw [dif_neg]
  omega

/-- What the four stores over a fill with zeros leave: every phase of the bordered image. -/
theorem phases_of_canon {i₀ : ∀ i, ![0, 1, 0, 0] i + ![1, 32, 33, 264] i ≤ Phases.size i} {i₁ : ∀ i, ![1, 1, 0, 0] i + ![1, 32, 33, 264] i ≤ Phases.size i}
    {i₂ : ∀ i, ![2, 0, 0, 0] i + ![1, 32, 33, 264] i ≤ Phases.size i} {i₃ : ∀ i, ![3, 0, 0, 0] i + ![1, 32, 33, 264] i ≤ Phases.size i}
    {iz : ∀ i, ![0, 0, 0, 0] i + ![4, 33, 33, 264] i ≤ Phases.size i}
    {y₀ y₁ y₂ y₃ : FVec Ideal Phase .bf16} {z Y : FVec Ideal Phases .bf16} (x : Fin 64 → Fin 64 → Fin 264 → EReal)
    (hY : View.canon (Val := Elt Ideal) (e := .bf16) (s := Phases) [⟨Rect.unit ![3, 0, 0, 0] ![1, 32, 33, 264] i₃, y₃⟩,
      ⟨Rect.unit ![2, 0, 0, 0] ![1, 32, 33, 264] i₂, y₂⟩, ⟨Rect.unit ![1, 1, 0, 0] ![1, 32, 33, 264] i₁, y₁⟩,
      ⟨Rect.unit ![0, 1, 0, 0] ![1, 32, 33, 264] i₀, y₀⟩, ⟨Rect.unit ![0, 0, 0, 0] ![4, 33, 33, 264] iz, z⟩] = Y)
    (hz : ∀ j, z j = (0 : EReal))
    (h₀ : ∀ r c i, y₀ (ix4 0 r c i) = padded x (2 * (r.val + 1)) (2 * c.val) i) (h₁ : ∀ r c i, y₁ (ix4 0 r c i) = padded x (2 * (r.val + 1)) (2 * c.val + 1) i)
    (h₂ : ∀ r c i, y₂ (ix4 0 r c i) = padded x (2 * r.val + 1) (2 * c.val) i) (h₃ : ∀ r c i, y₃ (ix4 0 r c i) = padded x (2 * r.val + 1) (2 * c.val + 1) i)
    (p : Fin 4) (r c : Fin 33) (i : Fin 264) :
    Y (ix4 p r c i) = padded x (2 * r.val + p.val / 2) (2 * c.val + p.val % 2) i := by
  rw [← hY, canon_phase (by omega), canon_phase (by omega), canon_phase (by omega), canon_phase (by omega), View.canon_cons_unit_lit _ _ _ (by decide)]
  simp only [h₀, h₁, h₂, h₃, hz]
  split
  · congr 1 <;> omega
  split
  · congr 1 <;> omega
  split
  · congr 1 <;> omega
  split
  · congr 1 <;> omega
  · exact (padded_out x i (by omega)).symm

/-- The block of two convolutions whose first has stride two and whose input is added through a convolution of one by one. -/
def block₀ (w₁ : Fin 9 → Fin 512 → Fin 264 → EReal) (w₂ : Fin 9 → Fin 512 → Fin 512 → EReal) (wd : Fin 512 → Fin 264 → EReal)
    (s₁ c₁ s₂ c₂ sd cd : Fin 512 → EReal) (x : Fin 64 → Fin 64 → Fin 264 → EReal) (h v : Fin 32) (o : Fin 512) : EReal :=
  max (conv (padded (act (conv (padded x) w₁ 2) s₁ c₁)) w₂ 1 h.val v.val o * s₂ o + c₂ o
    + tap (padded x) wd (2 * h.val + 1) (2 * v.val + 1) o * sd o + cd o) 0

end Cert.HeadMath
-- ==== Proof.HeadIdealPayload0.lean ====
module

public import proofs.«01_k».proof.Proof.Gen.HeadIdeal.Skeleton
public import proofs.«01_k».proof.Proof.HeadPhases

@[expose] public section
set_option maxRecDepth 16384
noncomputable section
namespace Cert.HeadIdeal.Block
open Cert.HeadMath Idealize.ShloMosaic Idealize.ShloMosaic.TcCoe Idealize.ShloMosaic.Tactic Cert.HeadIdeal Cert.HeadIdeal.Gen
theorem zero_int : ((((0#32).toInt : ℤ) : ℝ) : EReal) = 0 := by simp

section Payloads
variable (x0 : FVec Ideal S64x64x264 .bf16) (x : Fin 64 → Fin 64 → Fin 264 → EReal) (hx : ∀ r s i, x0 (ix3 r s i) = x r s i)
include hx

theorem phase_odd_odd (r : Fin 32) (c : Fin 33) (i : Fin 264) : k0_pay6 (F := Ideal) x0 (ix4 0 r c i) = padded x (2 * (r.val + 1)) (2 * c.val) i := by
  pointwise [k0_pay6, k0_pay4, k0_pay1]
  split
  · exact zero_int.trans (padded_out x i (by omega)).symm
  · exact (hx _ _ _).trans (padded_at x _ _ i (by dsimp only; omega) (by dsimp only; omega)).symm

theorem phase_odd_even (r : Fin 32) (c : Fin 33) (i : Fin 264) : k0_pay7 (F := Ideal) x0 (ix4 0 r c i) = padded x (2 * (r.val + 1)) (2 * c.val + 1) i := by
  pointwise [k0_pay7, k0_pay4, k0_pay1]
  split
  · exact (hx _ _ _).trans (padded_at x _ _ i (by dsimp only; omega) (by dsimp only; omega)).symm
  · exact zero_int.trans (padded_out x i (by omega)).symm

theorem phase_even_odd (r : Fin 32) (c : Fin 33) (i : Fin 264) : k0_pay9 (k0_pay8 (F := Ideal) x0) (ix4 0 r c i) = padded x (2 * r.val + 1) (2 * c.val) i := by
  pointwise [k0_pay9, k0_pay8, k0_pay2, k0_pay1]
  split
  · exact zero_int.trans (padded_out x i (by omega)).symm
  · exact (hx _ _ _).trans (padded_at x _ _ i (by dsimp only; omega) (by dsimp only; omega)).symm

theorem even_even (r c : Fin 32) (i : Fin 264) : k0_pay3 (F := Ideal) x0 (ix3 r c i) = padded x (2 * r.val + 1) (2 * c.val + 1) i := by
  pointwise [k0_pay3, k0_pay2, k0_pay1]
  exact (hx _ _ _).trans (padded_at x _ _ i (by dsimp only; omega) (by dsimp only; omega)).symm

theorem phase_even_even (r : Fin 32) (c : Fin 33) (i : Fin 264) : k0_pay10 (k0_pay3 (F := Ideal) x0) (ix4 0 r c i) = padded x (2 * r.val + 1) (2 * c.val + 1) i := by
  have h := even_even x0 x hx
  generalize k0_pay3 (F := Ideal) x0 = e at *
  pointwise [k0_pay10]
  split
  · exact h _ _ _
  · exact zero_int.trans (padded_out x i (by omega)).symm

end Payloads

/-- The first convolution's payload over the four phases. -/
theorem first_payload (PH : Vec Ideal S4x33x33x264 .bf16) (x1 : Vec Ideal S9x512x264 .bf16) (x4 x5 : Vec Ideal S1x512 .f32)
    (x : Fin 64 → Fin 64 → Fin 264 → EReal) (w₁ : Fin 9 → Fin 512 → Fin 264 → EReal) (s₁ c₁ : Fin 512 → EReal)
    (hPH : ∀ p r c i, PH (ix4 p r c i) = padded x (2 * r.val + p.val / 2) (2 * c.val + p.val % 2) i)
    (hw₁ : ∀ k o i, x1 (ix3 k o i) = w₁ k o i) (hs₁ : ∀ o, x4 (ix2 0 o) = s₁ o) (hc₁ : ∀ o, x5 (ix2 0 o) = c₁ o) (h v : Fin 32) (o : Fin 512) :
    k0_pay19
      (k0_pay18
        (k0_pay14
          (k0_pay11
            (View.ld PH (Rect.unit ![0, 0, 0, 0] ![1, 32, 32, 264] inb_S4x33x33x264_S1x32x32x264_0_0_0_0))
            (View.ld x1 (Rect.unit ![0, 0, 0] ![1, 512, 264] inb_S9x512x264_S1x512x264_0_0_0))
            (View.ld PH (Rect.unit ![1, 0, 0, 0] ![1, 32, 32, 264] inb_S4x33x33x264_S1x32x32x264_1_0_0_0))
            (View.ld x1 (Rect.unit ![1, 0, 0] ![1, 512, 264] inb_S9x512x264_S1x512x264_1_0_0)))
          (k0_pay12 (View.ld PH (Rect.unit ![0, 0, 1, 0] ![1, 32, 32, 264] inb_S4x33x33x264_S1x32x32x264_0_0_1_0)))
          (k0_pay13 (View.ld x1 (Rect.unit ![2, 0, 0] ![1, 512, 264] inb_S9x512x264_S1x512x264_2_0_0)))
          (constant S1024x512 FTy.f32 0#32)
          (View.ld PH (Rect.unit ![2, 0, 0, 0] ![1, 32, 32, 264] inb_S4x33x33x264_S1x32x32x264_2_0_0_0))
          (View.ld x1 (Rect.unit ![3, 0, 0] ![1, 512, 264] inb_S9x512x264_S1x512x264_3_0_0))
          (View.ld PH (Rect.unit ![3, 0, 0, 0] ![1, 32, 32, 264] inb_S4x33x33x264_S1x32x32x264_3_0_0_0))
          (View.ld x1 (Rect.unit ![4, 0, 0] ![1, 512, 264] inb_S9x512x264_S1x512x264_4_0_0))
          (View.ld PH (Rect.unit ![2, 0, 1, 0] ![1, 32, 32, 264] inb_S4x33x33x264_S1x32x32x264_2_0_1_0))
          (View.ld x1 (Rect.unit ![5, 0, 0] ![1, 512, 264] inb_S9x512x264_S1x512x264_5_0_0)))
        (k0_pay15 (View.ld PH (Rect.unit ![0, 1, 0, 0] ![1, 32, 32, 264] inb_S4x33x33x264_S1x32x32x264_0_1_0_0)))
        (k0_pay16 (View.ld x1 (Rect.unit ![6, 0, 0] ![1, 512, 264] inb_S9x512x264_S1x512x264_6_0_0)))
        (constant S1024x512 FTy.f32 0#32)
        (View.ld PH (Rect.unit ![1, 1, 0, 0] ![1, 32, 32, 264] inb_S4x33x33x264_S1x32x32x264_1_1_0_0))
        (View.ld x1 (Rect.unit ![7, 0, 0] ![1, 512, 264] inb_S9x512x264_S1x512x264_7_0_0))
        (View.ld PH (Rect.unit ![0, 1, 1, 0] ![1, 32, 32, 264] inb_S4x33x33x264_S1x32x32x264_0_1_1_0))
        (View.ld x1 (Rect.unit ![8, 0, 0] ![1, 512, 264] inb_S9x512x264_S1x512x264_8_0_0)) x4 x5) (ix3 h v o)
      = act (conv (padded x) w₁ 2) s₁ c₁ h v o := by
  pointwise [k0_pay19, k0_pay18, k0_pay16, k0_pay15, k0_pay14, k0_pay13, k0_pay12, k0_pay11]
  have p0 : ∀ n : ℕ, n + (0 : Fin 4).val / 2 = n := fun _ => rfl
  have p0' : ∀ n : ℕ, n + (0 : Fin 4).val % 2 = n := fun _ => rfl
  have p1 : ∀ n : ℕ, n + (1 : Fin 4).val / 2 = n := fun _ => rfl
  have p1' : ∀ n : ℕ, n + (1 : Fin 4).val % 2 = n + 1 := fun _ => rfl
  have p2 : ∀ n : ℕ, n + (2 : Fin 4).val / 2 = n + 1 := fun _ => rfl
  have p2' : ∀ n : ℕ, n + (2 : Fin 4).val % 2 = n := fun _ => rfl
  have p3 : ∀ n : ℕ, n + (3 : Fin 4).val / 2 = n + 1 := fun _ => rfl
  have p3' : ∀ n : ℕ, n + (3 : Fin 4).val % 2 = n + 1 := fun _ => rfl
  simp only [hPH, hw₁, hs₁, hc₁, Nat.add_comm 1, Nat.mul_add, Nat.mul_one, p0, p0', p1, p1', p2, p2', p3, p3']
  simp only [act, conv, tap]

/-- The second convolution's payload, the skip's convolution and the sum's positive part, over the padded image `Y` in between. -/
theorem second_payload (Y : Vec Ideal S34x34x512 .f32) (e : FVec Ideal S32x32x264 .bf16) (x2 : Vec Ideal S9x512x512 .bf16) (x3 : Vec Ideal S512x264 .bf16)
    (x6 x7 x8 x9 : Vec Ideal S1x512 .f32) (x : Fin 64 → Fin 64 → Fin 264 → EReal) (w₁ : Fin 9 → Fin 512 → Fin 264 → EReal)
    (w₂ : Fin 9 → Fin 512 → Fin 512 → EReal) (wd : Fin 512 → Fin 264 → EReal) (s₁ c₁ s₂ c₂ sd cd : Fin 512 → EReal)
    (hY : ∀ r s i, Y (ix3 r s i) = padded (act (conv (padded x) w₁ 2) s₁ c₁) r.val s.val i)
    (he : ∀ r c i, e (ix3 r c i) = padded x (2 * r.val + 1) (2 * c.val + 1) i)
    (hw₂ : ∀ k o i, x2 (ix3 k o i) = w₂ k o i) (hwd : ∀ o i, x3 (ix2 o i) = wd o i)
    (hs₂ : ∀ o, x6 (ix2 0 o) = s₂ o) (hc₂ : ∀ o, x7 (ix2 0 o) = c₂ o)
    (hsd : ∀ o, x8 (ix2 0 o) = sd o) (hcd : ∀ o, x9 (ix2 0 o) = cd o) (h v : Fin 32) (o : Fin 512) :
    k0_pay24 e
      (k0_pay21
        (k0_pay20 (View.ld Y (Rect.unit ![0, 0, 0] ![32, 32, 512] inb_S34x34x512_S32x32x512_0_0_0))
          (View.ld x2 (Rect.unit ![0, 0, 0] ![1, 512, 512] inb_S9x512x512_S1x512x512_0_0_0))
          (View.ld Y (Rect.unit ![0, 1, 0] ![32, 32, 512] inb_S34x34x512_S32x32x512_0_1_0))
          (View.ld x2 (Rect.unit ![1, 0, 0] ![1, 512, 512] inb_S9x512x512_S1x512x512_1_0_0))
          (View.ld Y (Rect.unit ![0, 2, 0] ![32, 32, 512] inb_S34x34x512_S32x32x512_0_2_0))
          (View.ld x2 (Rect.unit ![2, 0, 0] ![1, 512, 512] inb_S9x512x512_S1x512x512_2_0_0))
          (View.ld Y (Rect.unit ![1, 0, 0] ![32, 32, 512] inb_S34x34x512_S32x32x512_1_0_0))
          (View.ld x2 (Rect.unit ![3, 0, 0] ![1, 512, 512] inb_S9x512x512_S1x512x512_3_0_0)))
        (View.ld Y (Rect.unit ![1, 1, 0] ![32, 32, 512] inb_S34x34x512_S32x32x512_1_1_0))
        (View.ld x2 (Rect.unit ![4, 0, 0] ![1, 512, 512] inb_S9x512x512_S1x512x512_4_0_0))
        (View.ld Y (Rect.unit ![1, 2, 0] ![32, 32, 512] inb_S34x34x512_S32x32x512_1_2_0))
        (View.ld x2 (Rect.unit ![5, 0, 0] ![1, 512, 512] inb_S9x512x512_S1x512x512_5_0_0))
        (View.ld Y (Rect.unit ![2, 0, 0] ![32, 32, 512] inb_S34x34x512_S32x32x512_2_0_0))
        (View.ld x2 (Rect.unit ![6, 0, 0] ![1, 512, 512] inb_S9x512x512_S1x512x512_6_0_0))
        (View.ld Y (Rect.unit ![2, 1, 0] ![32, 32, 512] inb_S34x34x512_S32x32x512_2_1_0))
        (View.ld x2 (Rect.unit ![7, 0, 0] ![1, 512, 512] inb_S9x512x512_S1x512x512_7_0_0)))
      (k0_pay22 (View.ld Y (Rect.unit ![2, 2, 0] ![32, 32, 512] inb_S34x34x512_S32x32x512_2_2_0)))
      (View.ld x2 (Rect.unit ![8, 0, 0] ![1, 512, 512] inb_S9x512x512_S1x512x512_8_0_0)) x3 x6 x7 x8 x9 (ix3 h v o)
      = block₀ w₁ w₂ wd s₁ c₁ s₂ c₂ sd cd x h v o := by
  pointwise [k0_pay24, k0_pay22, k0_pay21, k0_pay20]
  simp only [hY, he, hw₂, hwd, hs₂, hc₂, hsd, hcd, Nat.add_comm 1, Nat.add_comm 2]
  simp only [block₀, conv, tap, Nat.one_mul]

end Cert.HeadIdeal.Block
-- ==== Proof.HeadIdealBlock0.lean ====
module

public import proofs.«01_k».proof.Proof.HeadIdealFrame0
public import proofs.«01_k».proof.Proof.HeadIdealPayload0

@[expose] public section
set_option maxRecDepth 16384
noncomputable section
namespace Cert.HeadIdeal.Block
open Cert.HeadMath Idealize.ShloMosaic Idealize.ShloMosaic.TcCoe Idealize.ShloMosaic.Tactic Cert.HeadIdeal Cert.HeadIdeal.Gen Cert.HeadIdeal.Run
variable (V : (c : Dev nD) → (b : Ref sig .tc) → Buf (Elt Ideal) ((c : Thread nD τ).loc b))

/-- What the first kernel leaves: the first block's image with its border of zeros. -/
theorem out0 (c : Dev nD) (t : Fin cfg0.N) (x : Fin 64 → Fin 64 → Fin 264 → EReal) (w₁ : Fin 9 → Fin 512 → Fin 264 → EReal)
    (w₂ : Fin 9 → Fin 512 → Fin 512 → EReal) (wd : Fin 512 → Fin 264 → EReal) (s₁ c₁ s₂ c₂ sd cd : Fin 512 → EReal)
    (hx : ∀ r s i, iblk0 V c 0 t (ix3 r s i) = x r s i)
    (hw₁ : ∀ k o i, iblk0 V c 1 t (ix3 k o i) = w₁ k o i) (hw₂ : ∀ k o i, iblk0 V c 2 t (ix3 k o i) = w₂ k o i)
    (hwd : ∀ o i, iblk0 V c 3 t (ix2 o i) = wd o i)
    (hs₁ : ∀ o, iblk0 V c 4 t (ix2 0 o) = s₁ o) (hc₁ : ∀ o, iblk0 V c 5 t (ix2 0 o) = c₁ o)
    (hs₂ : ∀ o, iblk0 V c 6 t (ix2 0 o) = s₂ o) (hc₂ : ∀ o, iblk0 V c 7 t (ix2 0 o) = c₂ o)
    (hsd : ∀ o, iblk0 V c 8 t (ix2 0 o) = sd o) (hcd : ∀ o, iblk0 V c 9 t (ix2 0 o) = cd o) (r s : Fin 34) (o : Fin 512) :
    outsAt0 V c t (ix3 r s o) = padded (block₀ w₁ w₂ wd s₁ c₁ s₂ c₂ sd cd x) r.val s.val o := by
  unfold outsAt0
  frame_out
  generalize iblk0 V c 0 t = x0 at *
  generalize iblk0 V c 1 t = x1 at *
  generalize iblk0 V c 2 t = x2 at *
  generalize iblk0 V c 3 t = x3 at *
  generalize iblk0 V c 4 t = x4 at *
  generalize iblk0 V c 5 t = x5 at *
  generalize iblk0 V c 6 t = x6 at *
  generalize iblk0 V c 7 t = x7 at *
  generalize iblk0 V c 8 t = x8 at *
  generalize iblk0 V c 9 t = x9 at *
  simp only [read_unread_whole, View.readCov_eq_canon']
  generalize hPH : View.canon (Val := Elt Ideal) (e := .bf16) (s := S4x33x33x264) [⟨Rect.unit ![3, 0, 0, 0] ![1, 32, 33, 264] _, _⟩, ⟨Rect.unit ![2, 0, 0, 0] ![1, 32, 33, 264] _, _⟩,
    ⟨Rect.unit ![1, 1, 0, 0] ![1, 32, 33, 264] _, _⟩, ⟨Rect.unit ![0, 1, 0, 0] ![1, 32, 33, 264] _, _⟩, ⟨Rect.unit ![0, 0, 0, 0] ![4, 33, 33, 264] _, _⟩] = PH
  have hPHv : ∀ p r c i, PH (ix4 p r c i) = padded x (2 * r.val + p.val / 2) (2 * c.val + p.val % 2) i := by
    exact phases_of_canon x hPH (fun j => by pointwise [k0_pay5]) (phase_odd_odd x0 x hx) (phase_odd_even x0 x hx) (phase_even_odd x0 x hx) (phase_even_even x0 x hx)
  clear hPH
  have hE := even_even x0 x hx
  generalize k0_pay3 (F := Ideal) x0 = e at *
  generalize hP : k0_pay19 (F := Ideal) _ = P
  have hPv : ∀ h v o, P (ix3 h v o) = act (conv (padded x) w₁ 2) s₁ c₁ h v o := by
    intro h v o
    rw [← hP]
    exact first_payload PH x1 x4 x5 x w₁ s₁ c₁ hPHv hw₁ hs₁ hc₁ h v o
  clear hP
  generalize hY : View.canon (Val := Elt Ideal) (e := .f32) (s := S34x34x512) [⟨Rect.unit ![1, 1, 0] ![32, 32, 512] inb_S34x34x512_S32x32x512_1_1_0, P⟩, ⟨Rect.unit ![0, 0, 0] ![34, 34, 512] inb_S34x34x512_S34x34x512_0_0_0, k0_pay17 (F := Ideal)⟩] = Y
  have hYv := padded_of_canon _ hY (fun j => by pointwise [k0_pay17]) hPv
  clear hY
  generalize hQ : k0_pay24 (F := Ideal) _ _ _ _ _ _ _ _ _ = Q
  refine padded_of_canon _ rfl (fun j => by pointwise [k0_pay23]) (fun h v o => ?_) r s o
  rw [← hQ]
  exact second_payload Y e x2 x3 x6 x7 x8 x9 x w₁ w₂ wd s₁ c₁ s₂ c₂ sd cd hYv hE hw₂ hwd hs₂ hc₂ hsd hcd h v o
end Cert.HeadIdeal.Block
-- ==== Proof.HeadIdealBlock1.lean ====
module

public import proofs.«01_k».proof.Proof.HeadIdealFrame1
public import proofs.«01_k».proof.Proof.HeadMath
public import Idealize.ShloMosaic.Lib.Pointwise
public import Idealize.ShloMosaic.Lib.Pipeline.ValueKit
public import Idealize.ShloMosaic.Lib.Pipeline.ReadBack

@[expose] public section
set_option maxRecDepth 16384

noncomputable section
namespace Cert.HeadIdeal.Block
open Cert.HeadMath Idealize.ShloMosaic Idealize.ShloMosaic.TcCoe Idealize.ShloMosaic.Tactic Cert.HeadIdeal Cert.HeadIdeal.Gen Cert.HeadIdeal.Run
variable (V : (c : Dev nD) → (b : Ref sig .tc) → Buf (Elt Ideal) ((c : Thread nD τ).loc b))

/-- What the second kernel leaves: the block of the image it is given, in its border of zeros. -/
theorem out1 (c : Dev nD) (t : Fin cfg1.N) (y : Fin 32 → Fin 32 → Fin 512 → EReal) (w₁ w₂ : Fin 9 → Fin 512 → Fin 512 → EReal) (s₁ c₁ s₂ c₂ : Fin 512 → EReal)
    (hx : ∀ r s i, iblk1 V c 0 t (ix3 r s i) = padded y r.val s.val i)
    (hw₁ : ∀ k o i, iblk1 V c 1 t (ix3 k o i) = w₁ k o i) (hw₂ : ∀ k o i, iblk1 V c 2 t (ix3 k o i) = w₂ k o i)
    (hs₁ : ∀ o, iblk1 V c 3 t (ix2 0 o) = s₁ o) (hc₁ : ∀ o, iblk1 V c 4 t (ix2 0 o) = c₁ o)
    (hs₂ : ∀ o, iblk1 V c 5 t (ix2 0 o) = s₂ o) (hc₂ : ∀ o, iblk1 V c 6 t (ix2 0 o) = c₂ o) (r s : Fin 34) (o : Fin 512) :
    outsAt1 V c t (ix3 r s o) = padded (block w₁ w₂ s₁ c₁ s₂ c₂ y) r.val s.val o := by
  unfold outsAt1
  frame_out
  generalize iblk1 V c 0 t = x0 at *
  generalize iblk1 V c 1 t = x1 at *
  generalize iblk1 V c 2 t = x2 at *
  generalize iblk1 V c 3 t = x3 at *
  generalize iblk1 V c 4 t = x4 at *
  generalize iblk1 V c 5 t = x5 at *
  generalize iblk1 V c 6 t = x6 at *
  simp only [read_unread_whole, View.readCov_eq_canon']
  generalize hP : k1_pay6 (F := Ideal) _ _ _ _ _ = P
  generalize hY : View.canon (Val := Elt Ideal) (e := .f32) (s := S34x34x512) [⟨Rect.unit ![1, 1, 0] ![32, 32, 512] inb_S34x34x512_S32x32x512_1_1_0, P⟩, ⟨Rect.unit ![0, 0, 0] ![34, 34, 512] inb_S34x34x512_S34x34x512_0_0_0, k1_pay5 (F := Ideal)⟩] = Y
  have hYv : ∀ r s i, Y (ix3 r s i) = padded (fun a b k => P (ix3 a b k)) r.val s.val i := by
    intro r s i
    rw [← hY]
    exact canon_padded _ _ _ _ (fun j => by pointwise [k1_pay5, k1_pay1]) r s i
  generalize hQ : k1_pay2 (F := Ideal) _ _ _ = Q
  refine (canon_padded _ _ _ _ (fun j => by pointwise [k1_pay5, k1_pay1]) r s o).trans ?_
  have hPv : (fun a b k => P (ix3 a b k)) = act (conv (padded y) w₁ 1) s₁ c₁ := by
    funext h v o
    rw [← hP]
    pointwise [k1_pay6, k1_pay4, k1_pay3]
    simp only [hx, hw₁, hs₁, hc₁, Nat.add_comm 1, Nat.add_comm 2]
    simp only [act, conv, tap, Nat.one_mul]
  have hQv : (fun a b k => Q (ix3 a b k)) = block w₁ w₂ s₁ c₁ s₂ c₂ y := by
    funext h v o
    rw [← hQ]
    pointwise [k1_pay2, k1_pay10, k1_pay9, k1_pay8, k1_pay7]
    simp only [hx, hYv, hPv, hw₂, hs₂, hc₂, Nat.add_comm 1, Nat.add_comm 2]
    simp only [block, actAdd, conv, tap, Nat.one_mul]
    rw [padded_inside y]
  rw [hQv]
end Cert.HeadIdeal.Block
-- ==== Proof.HeadTail.lean ====
/- The pooled average, the two logits and the softmax over the two of them, among one hundred and twenty-eight lanes of which two count. -/
module

public import proofs.«01_k».proof.Proof.HeadMath

@[expose] public section

set_option maxRecDepth 16384

noncomputable section

namespace Cert.HeadMath

open Idealize.ShloMosaic Idealize.ShloMosaic.Tactic

/-- The sum of an image over its positions, row after row. -/
def total (y : Fin 32 → Fin 32 → Fin 512 → EReal) (o : Fin 512) : EReal :=
  ∑ p : Fin 1024, y ⟨p.val / 32, by omega⟩ ⟨p.val % 32, by omega⟩ o

/-- A logit: the averages against one column of weights, and its bias. -/
def logit {m : ℕ} (y : Fin 32 → Fin 32 → Fin 512 → EReal) (fw : Fin 512 → Fin m → EReal) (fb : Fin m → EReal) (n : Fin m) : EReal :=
  ∑ o, total y o * ((1 / 1024 : ℝ) : EReal) * fw o n + fb n

/-- The softmax of two numbers. -/
def softmax₂ (l : Fin 2 → EReal) (n : Fin 2) : EReal :=
  Ideal.div (Ideal.exp (l n - max (l 0) (l 1))) (Ideal.exp (l 0 - max (l 0) (l 1)) + Ideal.exp (l 1 - max (l 0) (l 1)))

theorem lane_lt : ∀ x : Fin 128, IntOp.cmpi .slt (BitVec.ofNat 32 x.val) 2#32 = if x.val < 2 then 1#1 else 0#1 := by
  decide

theorem select_lane {α : Type} (x : Fin 128) (a b : α) :
    Scalar.select (IntOp.cmpi .slt (BitVec.ofNat 32 x.val) 2#32) a b = if x.val < 2 then a else b := by
  rw [lane_lt]
  split <;> rfl

theorem sum_lanes (g : Fin 128 → EReal) : (∑ x : Fin 128, if x.val < 2 then g x else 0) = g 0 + g 1 := by
  rw [← Finset.sum_subset (Finset.subset_univ {(0 : Fin 128), 1})]
  · rw [Finset.sum_pair (by decide)]
    rfl
  · intro x _ hx
    refine if_neg fun h => hx ?_
    have : x.val = 0 ∨ x.val = 1 := by omega
    simp only [Finset.mem_insert, Finset.mem_singleton, Fin.ext_iff]
    exact this

theorem max_lanes (g : Fin 128 → EReal) :
    Finset.univ.fold max (⊥ : EReal) (fun x : Fin 128 => if x.val < 2 then g x else ⊥) = max (g 0) (g 1) := by
  apply le_antisymm
  · rw [Finset.fold_max_le]
    refine ⟨bot_le, fun x _ => ?_⟩
    split
    · rename_i h
      have : x = 0 ∨ x = 1 := by
        simp only [Fin.ext_iff]
        show x.val = 0 ∨ x.val = 1
        omega
      rcases this with rfl | rfl
      · exact le_max_left _ _
      · exact le_max_right _ _
    · exact bot_le
  · rw [max_le_iff]
    constructor
    · rw [Finset.le_fold_max]
      exact .inr ⟨0, Finset.mem_univ _, le_rfl⟩
    · rw [Finset.le_fold_max]
      exact .inr ⟨1, Finset.mem_univ _, le_rfl⟩

theorem ofBits_inv_1024 : Ideal.ofBits FTy.f32 0x3A800000#32 = ((1 / 1024 : ℝ) : EReal) := by
  simp [Ideal.ofBits, Ideal.ieee, -EReal.coe_mul]
  norm_num

theorem ofBits_neg_top : Ideal.ofBits FTy.f32 0xFF800000#32 = ⊥ := by
  simp [Ideal.ofBits, Ideal.ieee, -EReal.coe_mul]

end Cert.HeadMath
-- ==== Proof.HeadIdealBlock2.lean ====
module

public import proofs.«01_k».proof.Proof.HeadIdealFrame2
public import proofs.«01_k».proof.Proof.HeadTail

@[expose] public section
set_option maxRecDepth 16384
noncomputable section
namespace Cert.HeadIdeal.Block
open Cert.HeadMath Idealize.ShloMosaic Idealize.ShloMosaic.TcCoe Idealize.ShloMosaic.Tactic Cert.HeadIdeal Cert.HeadIdeal.Gen Cert.HeadIdeal.Run

/-- The last payload, once the last block is known: the softmax of the two logits in the two lanes that count. -/
theorem tail9 (a : FVec Ideal S1024x512 .f32) (c : FVec Ideal S1x512 .f32) (x : FVec Ideal S32x32x512 .f32) (w : FVec Ideal S512x128 .f32) (b : FVec Ideal S1x128 .f32)
    (y : Fin 32 → Fin 32 → Fin 512 → EReal) (fw : Fin 512 → Fin 2 → EReal) (fb : Fin 2 → EReal)
    (hy : ∀ (p : Fin 1024) o, max (a (ix2 p o) + c (ix2 0 o) + x (ix3 ⟨p.val / 32, by omega⟩ ⟨p.val % 32, by omega⟩ o)) (0 : EReal) = y ⟨p.val / 32, by omega⟩ ⟨p.val % 32, by omega⟩ o)
    (hw : ∀ o (n : Fin 2), w (ix2 o ⟨n.val, by omega⟩) = fw o n) (hb : ∀ n : Fin 2, b (ix2 0 ⟨n.val, by omega⟩) = fb n) (n : Fin 2) :
    k2_pay9 a c x w b (ix2 0 ⟨n.val, by omega⟩) = softmax₂ (logit y fw fb) n := by
  have hm : Named.named (F := Ideal) κ "mask" (φ := .f32) 0xF149F2CA#32 = (⊥ : EReal) := IdealRules.named_const.ideal_named_scalar _ _ _ _ rfl
  have hs : ∀ a b : EReal, Scalar.select (IntOp.cmpi .slt (BitVec.ofNat 32 n.val) 2#32) a b = a := fun a b =>
    (select_lane ⟨n.val, by omega⟩ a b).trans (if_pos n.isLt)
  have hw0 : ∀ o, w (ix2 o 0) = fw o 0 := fun o => hw o 0
  have hw1 : ∀ o, w (ix2 o 1) = fw o 1 := fun o => hw o 1
  have hb0 : b (ix2 0 0) = fb 0 := hb 0
  have hb1 : b (ix2 0 1) = fb 1 := hb 1
  pointwise [k2_pay9]
  simp only [hm, hs, ofBits_neg_top, ofBits_inv_1024, select_lane, hy]
  rw [max_lanes, sum_lanes]
  simp only [hw, hb, hw0, hw1, hb0, hb1]
  rfl

variable (V : (c : Dev nD) → (b : Ref sig .tc) → Buf (Elt Ideal) ((c : Thread nD τ).loc b))

/-- What the third kernel leaves in those lanes. -/
theorem out2 (c : Dev nD) (t : Fin cfg2.N) (y : Fin 32 → Fin 32 → Fin 512 → EReal) (w₁ w₂ : Fin 9 → Fin 512 → Fin 512 → EReal) (s₁ c₁ s₂ c₂ : Fin 512 → EReal)
    (fw : Fin 512 → Fin 2 → EReal) (fb : Fin 2 → EReal)
    (hx : ∀ r s i, iblk2 V c 0 t (ix3 r s i) = padded y r.val s.val i)
    (hw₁ : ∀ k o i, iblk2 V c 1 t (ix3 k o i) = w₁ k o i) (hw₂ : ∀ k o i, iblk2 V c 2 t (ix3 k o i) = w₂ k o i)
    (hs₁ : ∀ o, iblk2 V c 3 t (ix2 0 o) = s₁ o) (hc₁ : ∀ o, iblk2 V c 4 t (ix2 0 o) = c₁ o)
    (hs₂ : ∀ o, iblk2 V c 5 t (ix2 0 o) = s₂ o) (hc₂ : ∀ o, iblk2 V c 6 t (ix2 0 o) = c₂ o)
    (hfw : ∀ o n, iblk2 V c 7 t (ix2 o ⟨n.val, by omega⟩) = fw o n) (hfb : ∀ n, iblk2 V c 8 t (ix2 0 ⟨n.val, by omega⟩) = fb n)
    (n : Fin 2) :
    outsAt2 V c t (ix2 0 ⟨n.val, by omega⟩) = softmax₂ (logit (block w₁ w₂ s₁ c₁ s₂ c₂ y) fw fb) n := by
  unfold outsAt2
  frame_out
  generalize iblk2 V c 0 t = x0 at *
  generalize iblk2 V c 1 t = x1 at *
  generalize iblk2 V c 2 t = x2 at *
  generalize iblk2 V c 3 t = x3 at *
  generalize iblk2 V c 4 t = x4 at *
  generalize iblk2 V c 5 t = x5 at *
  generalize iblk2 V c 6 t = x6 at *
  generalize iblk2 V c 7 t = x7 at *
  generalize iblk2 V c 8 t = x8 at *
  simp only [read_unread_whole, View.readCov_eq_canon']
  generalize hY : View.canon (Val := Elt Ideal) (e := .f32) (s := S34x34x512) [⟨Rect.unit ![1, 1, 0] ![32, 32, 512] inb_S34x34x512_S32x32x512_1_1_0, _⟩, ⟨Rect.unit ![0, 0, 0] ![34, 34, 512] inb_S34x34x512_S34x34x512_0_0_0, _⟩] = Y
  have hYv : ∀ r s i, Y (ix3 r s i) = padded (act (conv (padded y) w₁ 1) s₁ c₁) r.val s.val i := by
    refine padded_of_canon _ hY (fun j => by pointwise [k2_pay3]) (fun h v o => ?_)
    pointwise [k2_pay4, k2_pay2, k2_pay1]
    simp only [hx, hw₁, hs₁, hc₁, Nat.add_comm 1, Nat.add_comm 2]
    simp only [act, conv, tap, Nat.one_mul]
  clear hY
  refine tail9 _ _ _ _ _ _ _ _ (fun p o => ?_) hfw hfb n
  pointwise [k2_pay8, k2_pay7, k2_pay6, k2_pay5]
  simp only [hx, hYv, hw₂, hs₂, hc₂, Nat.add_comm 1, Nat.add_comm 2]
  simp only [block, actAdd, conv, tap, Nat.one_mul]
  rw [← padded_inside y]
end Cert.HeadIdeal.Block
-- ==== Proof.HeadSpec.lean ====
/- The head as its mathematics states it: the first block over the features' own channels, and the convolutions' weights by tap. -/
module

public import proofs.«01_k».proof.Proof.HeadPhases
public import proofs.«01_k».proof.Proof.HeadTail
public import Idealize.ShloMosaic.Lib.Pointwise

@[expose] public section

set_option maxRecDepth 16384

noncomputable section

namespace Cert.HeadMath

open Idealize.ShloMosaic Idealize.ShloMosaic.Tactic

/-- A convolution's weights by tap: tap `k` is row `k / 3`, column `k % 3` of the window. -/
def taps {C : ℕ} (a : Fin 512 → Fin C → Fin 3 → Fin 3 → EReal) (k : Fin 9) (o : Fin 512) (i : Fin C) : EReal :=
  a o i ⟨k.val / 3, by omega⟩ ⟨k.val % 3, by omega⟩

theorem tap_comm {C : ℕ} (X : ℕ → ℕ → Fin C → EReal) (w : Fin 512 → Fin C → EReal) (r s : ℕ) (o : Fin 512) :
    tap X w r s o = ∑ i : Fin C, w o i * X r s i :=
  Finset.sum_congr rfl fun _ _ => mul_comm _ _

/-- The nine taps written out, weights first. -/
theorem conv_taps {C : ℕ} (X : ℕ → ℕ → Fin C → EReal) (a : Fin 512 → Fin C → Fin 3 → Fin 3 → EReal) (t h v : ℕ) (o : Fin 512) :
    conv X (taps a) t h v o
      = ∑ i, a o i 0 0 * X (t * h) (t * v) i + ∑ i, a o i 0 1 * X (t * h) (t * v + 1) i + ∑ i, a o i 0 2 * X (t * h) (t * v + 2) i
        + ∑ i, a o i 1 0 * X (t * h + 1) (t * v) i + ∑ i, a o i 1 1 * X (t * h + 1) (t * v + 1) i + ∑ i, a o i 1 2 * X (t * h + 1) (t * v + 2) i
        + ∑ i, a o i 2 0 * X (t * h + 2) (t * v) i + ∑ i, a o i 2 1 * X (t * h + 2) (t * v + 1) i + ∑ i, a o i 2 2 * X (t * h + 2) (t * v + 2) i := by
  simp only [conv, tap_comm]
  rfl

/-- The first block: stride two, and a skip of its own that is scaled and shifted before it is added. -/
def first {C : ℕ} (w₁ : Fin 9 → Fin 512 → Fin C → EReal) (w₂ : Fin 9 → Fin 512 → Fin 512 → EReal) (wd : Fin 512 → Fin C → EReal)
    (s₁ c₁ s₂ c₂ sd cd : Fin 512 → EReal) (x : Fin 64 → Fin 64 → Fin C → EReal) : Fin 32 → Fin 32 → Fin 512 → EReal :=
  actAdd (conv (padded (act (conv (padded x) w₁ 2) s₁ c₁)) w₂ 1) s₂ c₂
    fun h v o => tap (padded x) wd (2 * h.val + 1) (2 * v.val + 1) o * sd o + cd o

/-- Channels with zero weights add nothing to a tap. -/
theorem tap_widen (x' : Fin 64 → Fin 64 → Fin 264 → EReal) (x : Fin 64 → Fin 64 → Fin 256 → EReal)
    (hx : ∀ r s (i : Fin 256), x' r s ⟨i.val, by omega⟩ = x r s i) (w' : Fin 512 → Fin 264 → EReal) (w : Fin 512 → Fin 256 → EReal)
    (hw : ∀ o i, w' o i = if h : i.val < 256 then w o ⟨i.val, h⟩ else 0) (r s : ℕ) (o : Fin 512) :
    tap (padded x') w' r s o = tap (padded x) w r s o := by
  unfold tap
  rw [Fin.sum_univ_add (a := 256) (b := 8)]
  have z : (∑ i : Fin 8, padded x' r s (Fin.natAdd 256 i) * w' o (Fin.natAdd 256 i)) = 0 := by
    refine Finset.sum_eq_zero fun i _ => ?_
    rw [hw, dif_neg (by simp), mul_zero]
  rw [z, add_zero]
  refine Finset.sum_congr rfl fun i _ => ?_
  rw [hw, dif_pos (show (Fin.castAdd 8 i).val < 256 from i.isLt)]
  refine congrArg (· * _) ?_
  unfold padded
  split
  · exact hx _ _ i
  · rfl

/-- The first call's block, over the widened features and weights, is the first block. -/
theorem first_widen (x' : Fin 64 → Fin 64 → Fin 264 → EReal) (x : Fin 64 → Fin 64 → Fin 256 → EReal)
    (hx : ∀ r s (i : Fin 256), x' r s ⟨i.val, by omega⟩ = x r s i)
    (w₁' : Fin 9 → Fin 512 → Fin 264 → EReal) (w₁ : Fin 9 → Fin 512 → Fin 256 → EReal)
    (hw₁ : ∀ k o i, w₁' k o i = if h : i.val < 256 then w₁ k o ⟨i.val, h⟩ else 0)
    (w₂ : Fin 9 → Fin 512 → Fin 512 → EReal) (wd' : Fin 512 → Fin 264 → EReal) (wd : Fin 512 → Fin 256 → EReal)
    (hwd : ∀ o i, wd' o i = if h : i.val < 256 then wd o ⟨i.val, h⟩ else 0) (s₁ c₁ s₂ c₂ sd cd : Fin 512 → EReal) :
    block₀ w₁' w₂ wd' s₁ c₁ s₂ c₂ sd cd x' = first w₁ w₂ wd s₁ c₁ s₂ c₂ sd cd x := by
  have hc : conv (padded x') w₁' 2 = conv (padded x) w₁ 2 := by
    funext h v o
    simp only [conv, tap_widen x' x hx _ _ (hw₁ _)]
  funext h v o
  unfold block₀ first actAdd
  rw [hc, tap_widen x' x hx wd' wd hwd, add_assoc _ (_ * sd o) (cd o)]

/-- The bordered image with its bounds as the program tests them. -/
theorem padded_eq {C n : ℕ} (y : Fin n → Fin n → Fin C → EReal) (r s : ℕ) (i : Fin C) :
    padded y r s i = if h : (1 ≤ r ∧ r - 1 < n) ∧ 1 ≤ s ∧ s - 1 < n then y ⟨r - 1, h.1.2⟩ ⟨s - 1, h.2.2⟩ i else 0 := by
  unfold padded
  by_cases h : (1 ≤ r ∧ r ≤ n) ∧ (1 ≤ s ∧ s ≤ n)
  · rw [dif_pos h, dif_pos (by omega)]
  · rw [dif_neg h, dif_neg (by omega)]

theorem float32_zero : (FloatOps.sitofp (F := Ideal) .f32 (0#32) : EReal) = 0 := by
  show ((((0#32).toInt : ℤ) : ℝ) : EReal) = 0
  simp

/-- A sum over rows and columns is the sum over positions, row after row. -/
theorem total_rows (y : Fin 32 → Fin 32 → Fin 512 → EReal) (o : Fin 512) : ∑ h, ∑ v, y h v o = total y o := by
  unfold total
  rw [← Fintype.sum_prod_type']
  refine Fintype.sum_equiv finProdFinEquiv _ _ fun p => ?_
  have hd : (finProdFinEquiv p).val / 32 = p.1.val := by
    simp only [finProdFinEquiv_apply_val]
    omega
  have hm : (finProdFinEquiv p).val % 32 = p.2.val := by
    simp only [finProdFinEquiv_apply_val]
    omega
  exact congrArg₂ (fun a b => y a b o) (Fin.ext hd.symm) (Fin.ext hm.symm)

theorem ofBits_1024 : Ideal.ofBits FTy.f32 0x44800000#32 = ((1024 : ℝ) : EReal) := by
  simp [Ideal.ofBits, Ideal.ieee, -EReal.coe_mul]
  norm_num

theorem max_two (g : Fin 2 → EReal) : max (⊥ : EReal) (Finset.univ.fold max (⊥ : EReal) g) = max (g 0) (g 1) := by
  have e : (Finset.univ : Finset (Fin 2)) = {0, 1} := by decide
  rw [e]
  simp [Finset.fold_insert]

/-- An array's elements. -/
abbrev Arr (S : Shape) : Type := S.Idx → EReal
abbrev Kern (C : ℕ) : Shape := ⟨4, ![512, C, 3, 3]⟩
abbrev Chan : Shape := ⟨1, ![512]⟩

/-- A convolution's weights by tap, from the array that holds them. -/
def tapsOf {C : ℕ} (a : Arr (Kern C)) : Fin 9 → Fin 512 → Fin C → EReal := taps fun o i u v => a (ix4 o i u v)
/-- One number per channel, from the array that holds them. -/
def chan (a : Arr Chan) (o : Fin 512) : EReal := a (ix1 o)

/-- The head: three blocks, the mean over all positions, two classes, their softmax. -/
def head (a0 : Arr ⟨4, ![1, 256, 64, 64]⟩) (a1 : Arr (Kern 256)) (a2 a3 : Arr Chan) (a4 : Arr (Kern 512)) (a5 a6 : Arr Chan)
    (a7 : Arr ⟨4, ![512, 256, 1, 1]⟩) (a8 a9 : Arr Chan) (a10 : Arr (Kern 512)) (a11 a12 : Arr Chan) (a13 : Arr (Kern 512)) (a14 a15 : Arr Chan)
    (a16 : Arr (Kern 512)) (a17 a18 : Arr Chan) (a19 : Arr (Kern 512)) (a20 a21 : Arr Chan) (a22 : Arr ⟨2, ![2, 512]⟩) (a23 : Arr ⟨1, ![2]⟩) :
    Fin 2 → EReal :=
  softmax₂ (logit
    (block (tapsOf a16) (tapsOf a19) (chan a17) (chan a18) (chan a20) (chan a21)
      (block (tapsOf a10) (tapsOf a13) (chan a11) (chan a12) (chan a14) (chan a15)
        (first (tapsOf a1) (tapsOf a4) (fun o i => a7 (ix4 o i 0 0)) (chan a2) (chan a3) (chan a5) (chan a6) (chan a8) (chan a9)
          fun r s i => a0 (ix4 0 i r s))))
    (fun o n => a22 (ix2 n o)) (fun n => a23 (ix1 n)))

end Cert.HeadMath
-- ==== Proof.HeadIdealHost.lean ====
/- What the head's lines around its three calls leave in the calls' operands, at an element: over any contents `σ` before the
   lines. -/
module

public import proofs.«01_k».proof.Proof.Gen.HeadIdeal.Launch
public import Idealize.ShloMosaic.Lib.Pipeline.ValueKit
public import Idealize.ShloMosaic.Lib.Pointwise
public import proofs.«01_k».proof.Proof.HeadSpec

@[expose] public section

set_option maxRecDepth 16384

noncomputable section

namespace Cert.HeadIdeal.Host

open Idealize.ShloMosaic Idealize.ShloMosaic.TcCoe Idealize.SL.Sem
open Cert.HeadIdeal Cert.HeadIdeal.Gen Cert.HeadMath

variable (σ : Valuation τ sig (Elt Ideal))

theorem pair_div {n : ℕ} (a : ℕ) (b : Fin n) : (a * n + b.val) / n = a := by
  rw [Nat.add_comm, Nat.add_mul_div_right _ _ (Nat.pos_of_ne_zero fun h => absurd b.isLt (by omega)), Nat.div_eq_of_lt b.isLt, Nat.zero_add]
theorem pair_mod {n : ℕ} (a : ℕ) (b : Fin n) : (a * n + b.val) % n = b.val := by
  rw [Nat.add_comm, Nat.add_mul_mod_self_right, Nat.mod_eq_of_lt b.isLt]
theorem float_zero : (FloatOps.sitofp (F := Ideal) .bf16 (0#32) : EReal) = 0 := by
  show ((((0#32).toInt : ℤ) : ℝ) : EReal) = 0
  simp

/-- The features by position, beside them eight channels of ones. -/
theorem features (r s : Fin 64) (i : Fin 264) :
    StableHlo.after hostOps0 σ (Proc.devRef .tc main_v6) (ix3 r s i)
      = if h : i.val < 256 then σ (Proc.devRef .tc main_arg0) (ix4 0 ⟨i.val, h⟩ r s) else (1 : EReal) := by
  entry_read
  pointwise
  simp only [pair_div, pair_mod]

/-- The first convolution's weights by tap, beside them eight channels of zeros. -/
theorem taps_14 (k : Fin 9) (o : Fin 512) (i : Fin 264) :
    StableHlo.after hostOps0_3 (StableHlo.after hostOps0_2 σ) (Proc.devRef .tc main_v14) (ix3 k o i)
      = if h : i.val < 256 then taps (fun o (i : Fin 256) y x => σ (Proc.devRef .tc main_arg1) (ix4 o i y x)) k o ⟨i.val, h⟩ else (0 : EReal) := by
  entry_read
  simp -implicitDefEqProofs only [StableHlo.TRef.toBuf, StableHlo.TRef.ofBuf, cast_cast, cast_eq]
  pointwise
  split_ifs with h
  · simp only [pair_div o.val (⟨i.val, h⟩ : Fin 256), pair_mod o.val (⟨i.val, h⟩ : Fin 256), taps]
  · exact float_zero

/-- The skip's weights, beside them eight channels of zeros. -/
theorem skip_9 (o : Fin 512) (i : Fin 264) :
    StableHlo.after hostOps0_1 (StableHlo.after hostOps0 σ) (Proc.devRef .tc main_v9) (ix2 o i)
      = if h : i.val < 256 then σ (Proc.devRef .tc main_arg7) (ix4 o ⟨i.val, h⟩ 0 0) else (0 : EReal) := by
  entry_read
  simp -implicitDefEqProofs only [StableHlo.TRef.toBuf, StableHlo.TRef.ofBuf, cast_cast, cast_eq]
  pointwise
  split_ifs with h
  · rfl
  · exact float_zero

/-- The last layer's weights in the first two lanes. -/
theorem last_40 (o : Fin 512) (n : Fin 2) :
    StableHlo.after hostOps2_1 (StableHlo.after hostOps2 σ) (Proc.devRef .tc main_v40) (ix2 o ⟨n.val, by omega⟩)
      = σ (Proc.devRef .tc main_arg22) (ix2 n o) := by
  entry_read
  simp -implicitDefEqProofs only [StableHlo.TRef.toBuf, StableHlo.TRef.ofBuf, cast_cast, cast_eq]
  pointwise

theorem last_42 (n : Fin 2) :
    StableHlo.after hostOps2_3 (StableHlo.after hostOps2_2 σ) (Proc.devRef .tc main_v42) (ix2 0 ⟨n.val, by omega⟩)
      = σ (Proc.devRef .tc main_arg23) (ix1 n) := by
  entry_read
  simp -implicitDefEqProofs only [StableHlo.TRef.toBuf, StableHlo.TRef.ofBuf, cast_cast, cast_eq]
  pointwise

/-- The result: the first two lanes of the third call's output. -/
theorem result_57 (n : Fin 2) :
    StableHlo.after hostOps3 σ (Proc.devRef .tc main_v57) (ix1 n) = σ (Proc.devRef .tc main_v55) (ix2 0 ⟨n.val, by omega⟩) := by
  entry_read
  pointwise

theorem taps_18 (k : Fin 9) (o i : Fin 512) :
    StableHlo.after hostOps0_4 σ (Proc.devRef .tc main_v18) (ix3 k o i) = taps (fun o (i : Fin 512) y x => σ (Proc.devRef .tc main_arg4) (ix4 o i y x)) k o i := by
  entry_read
  pointwise
  simp only [pair_div, pair_mod, taps]

theorem taps_29 (k : Fin 9) (o i : Fin 512) :
    StableHlo.after hostOps1 σ (Proc.devRef .tc main_v29) (ix3 k o i) = taps (fun o (i : Fin 512) y x => σ (Proc.devRef .tc main_arg10) (ix4 o i y x)) k o i := by
  entry_read
  pointwise
  simp only [pair_div, pair_mod, taps]

theorem taps_33 (k : Fin 9) (o i : Fin 512) :
    StableHlo.after hostOps1 σ (Proc.devRef .tc main_v33) (ix3 k o i) = taps (fun o (i : Fin 512) y x => σ (Proc.devRef .tc main_arg13) (ix4 o i y x)) k o i := by
  entry_read
  pointwise
  simp only [pair_div, pair_mod, taps]

theorem taps_46 (k : Fin 9) (o i : Fin 512) :
    StableHlo.after hostOps2_4 σ (Proc.devRef .tc main_v46) (ix3 k o i) = taps (fun o (i : Fin 512) y x => σ (Proc.devRef .tc main_arg16) (ix4 o i y x)) k o i := by
  entry_read
  pointwise
  simp only [pair_div, pair_mod, taps]

theorem taps_50 (k : Fin 9) (o i : Fin 512) :
    StableHlo.after hostOps2_4 σ (Proc.devRef .tc main_v50) (ix3 k o i) = taps (fun o (i : Fin 512) y x => σ (Proc.devRef .tc main_arg19) (ix4 o i y x)) k o i := by
  entry_read
  pointwise
  simp only [pair_div, pair_mod, taps]

theorem row_19 (o : Fin 512) : StableHlo.after hostOps0_4 σ (Proc.devRef .tc main_v19) (ix2 0 o) = σ (Proc.devRef .tc main_arg2) (ix1 o) := by
  entry_read
  pointwise

theorem row_20 (o : Fin 512) : StableHlo.after hostOps0_4 σ (Proc.devRef .tc main_v20) (ix2 0 o) = σ (Proc.devRef .tc main_arg3) (ix1 o) := by
  entry_read
  pointwise

theorem row_21 (o : Fin 512) : StableHlo.after hostOps0_4 σ (Proc.devRef .tc main_v21) (ix2 0 o) = σ (Proc.devRef .tc main_arg5) (ix1 o) := by
  entry_read
  pointwise

theorem row_22 (o : Fin 512) : StableHlo.after hostOps0_4 σ (Proc.devRef .tc main_v22) (ix2 0 o) = σ (Proc.devRef .tc main_arg6) (ix1 o) := by
  entry_read
  pointwise

theorem row_23 (o : Fin 512) : StableHlo.after hostOps0_4 σ (Proc.devRef .tc main_v23) (ix2 0 o) = σ (Proc.devRef .tc main_arg8) (ix1 o) := by
  entry_read
  pointwise

theorem row_24 (o : Fin 512) : StableHlo.after hostOps0_4 σ (Proc.devRef .tc main_v24) (ix2 0 o) = σ (Proc.devRef .tc main_arg9) (ix1 o) := by
  entry_read
  pointwise

theorem row_34 (o : Fin 512) : StableHlo.after hostOps1 σ (Proc.devRef .tc main_v34) (ix2 0 o) = σ (Proc.devRef .tc main_arg11) (ix1 o) := by
  entry_read
  pointwise

theorem row_35 (o : Fin 512) : StableHlo.after hostOps1 σ (Proc.devRef .tc main_v35) (ix2 0 o) = σ (Proc.devRef .tc main_arg12) (ix1 o) := by
  entry_read
  pointwise

theorem row_36 (o : Fin 512) : StableHlo.after hostOps1 σ (Proc.devRef .tc main_v36) (ix2 0 o) = σ (Proc.devRef .tc main_arg14) (ix1 o) := by
  entry_read
  pointwise

theorem row_37 (o : Fin 512) : StableHlo.after hostOps1 σ (Proc.devRef .tc main_v37) (ix2 0 o) = σ (Proc.devRef .tc main_arg15) (ix1 o) := by
  entry_read
  pointwise

theorem row_51 (o : Fin 512) : StableHlo.after hostOps2_4 σ (Proc.devRef .tc main_v51) (ix2 0 o) = σ (Proc.devRef .tc main_arg17) (ix1 o) := by
  entry_read
  pointwise

theorem row_52 (o : Fin 512) : StableHlo.after hostOps2_4 σ (Proc.devRef .tc main_v52) (ix2 0 o) = σ (Proc.devRef .tc main_arg18) (ix1 o) := by
  entry_read
  pointwise

theorem row_53 (o : Fin 512) : StableHlo.after hostOps2_4 σ (Proc.devRef .tc main_v53) (ix2 0 o) = σ (Proc.devRef .tc main_arg20) (ix1 o) := by
  entry_read
  pointwise

theorem row_54 (o : Fin 512) : StableHlo.after hostOps2_4 σ (Proc.devRef .tc main_v54) (ix2 0 o) = σ (Proc.devRef .tc main_arg21) (ix1 o) := by
  entry_read
  pointwise

end Cert.HeadIdeal.Host
end
-- ==== Proof.HeadIdealValue.lean ====
/- The head's result: what its chain of lines and calls leaves is the head of its arguments. -/
module

public import proofs.«01_k».proof.Proof.HeadIdealFrame
public import proofs.«01_k».proof.Proof.HeadIdealArrays
public import proofs.«01_k».proof.Proof.HeadIdealBlock0
public import proofs.«01_k».proof.Proof.HeadIdealBlock1
public import proofs.«01_k».proof.Proof.HeadIdealBlock2
public import proofs.«01_k».proof.Proof.HeadIdealHost

@[expose] public section

set_option maxRecDepth 16384

noncomputable section

namespace Cert.HeadIdeal.Result

open Idealize.ShloMosaic Idealize.ShloMosaic.TcCoe Idealize.SL.Sem
open Cert.HeadIdeal Cert.HeadIdeal.Gen Cert.HeadIdeal.Run Cert.HeadIdeal.Arrays Cert.HeadIdeal.Block Cert.HeadIdeal.Host
open Cert.HeadMath (tapsOf chan first first_widen block padded head)

variable (m : (ℓ : Loc nD τ sig) → Buf (Elt Ideal) ℓ) (ρ : Dev nD → PrngReg) (c : Dev nD)

/-- What the first call's image is, of the program's arguments. -/
def image₀ : Fin 32 → Fin 32 → Fin 512 → EReal :=
  first (tapsOf (m ((c : Thread nD τ).loc main_arg1))) (tapsOf (m ((c : Thread nD τ).loc main_arg4))) (fun o i => (m ((c : Thread nD τ).loc main_arg7)) (ix4 o i 0 0)) (chan (m ((c : Thread nD τ).loc main_arg2))) (chan (m ((c : Thread nD τ).loc main_arg3))) (chan (m ((c : Thread nD τ).loc main_arg5))) (chan (m ((c : Thread nD τ).loc main_arg6))) (chan (m ((c : Thread nD τ).loc main_arg8))) (chan (m ((c : Thread nD τ).loc main_arg9)))
    fun r s i => (m ((c : Thread nD τ).loc main_arg0)) (ix4 0 i r s)
/-- What the second call's image is. -/
def image₁ : Fin 32 → Fin 32 → Fin 512 → EReal :=
  block (tapsOf (m ((c : Thread nD τ).loc main_arg10))) (tapsOf (m ((c : Thread nD τ).loc main_arg13))) (chan (m ((c : Thread nD τ).loc main_arg11))) (chan (m ((c : Thread nD τ).loc main_arg12))) (chan (m ((c : Thread nD τ).loc main_arg14))) (chan (m ((c : Thread nD τ).loc main_arg15))) (image₀ m c)

/-- The features and their eight further channels, as the first call finds them. -/
theorem found_6 (r s : Fin 64) (i : Fin 264) :
    V5 m ρ c main_v6 (ix3 r s i) = if h : i.val < 256 then (m ((c : Thread nD τ).loc main_arg0)) (ix4 0 ⟨i.val, h⟩ r s) else (1 : EReal) :=
  (congrFun ((W5_of m ρ c main_v6 (by decide)).trans ((W4_of m ρ c main_v6 (by decide)).trans
    ((W3_of m ρ c main_v6 (by decide)).trans (W2_of m ρ c main_v6 (by decide))))) _).trans (features (W0 m ρ c) r s i)

/-- The first convolution's weights, as the first call finds them. -/
theorem found_14 (k : Fin 9) (o : Fin 512) (i : Fin 264) :
    V5 m ρ c main_v14 (ix3 k o i) = if h : i.val < 256 then tapsOf (m ((c : Thread nD τ).loc main_arg1)) k o ⟨i.val, h⟩ else (0 : EReal) :=
  (congrFun (W5_of m ρ c main_v14 (by decide)) _).trans
    ((taps_14 (W2 m ρ c) k o i).trans (by rw [W2_args m ρ c main_arg1 (by decide)]; rfl))

/-- The skip's weights, as the first call finds them. -/
theorem found_9 (o : Fin 512) (i : Fin 264) :
    V5 m ρ c main_v9 (ix2 o i) = if h : i.val < 256 then (m ((c : Thread nD τ).loc main_arg7)) (ix4 o ⟨i.val, h⟩ 0 0) else (0 : EReal) :=
  (congrFun ((W5_of m ρ c main_v9 (by decide)).trans ((W4_of m ρ c main_v9 (by decide)).trans (W3_of m ρ c main_v9 (by decide)))) _).trans
    (skip_9 (W0 m ρ c) o i)

theorem call₀ (r s : Fin 34) (o : Fin 512) : V7 m ρ c main_v25 (ix3 r s o) = padded (image₀ m c) r.val s.val o := by
  refine (congrFun ((W7_of m ρ c main_v25 (by decide)).trans ((W6_arr m ρ c 10).trans (arr0 (V5 m ρ) c))) _).trans ?_
  refine (out0 (V5 m ρ) c ⟨0, by decide⟩ _ _ (tapsOf (m ((c : Thread nD τ).loc main_arg4))) _ (chan (m ((c : Thread nD τ).loc main_arg2))) (chan (m ((c : Thread nD τ).loc main_arg3))) (chan (m ((c : Thread nD τ).loc main_arg5))) (chan (m ((c : Thread nD τ).loc main_arg6))) (chan (m ((c : Thread nD τ).loc main_arg8))) (chan (m ((c : Thread nD τ).loc main_arg9)))
    (fun r s i => (in0_0 _ c _ r s i).trans (found_6 m ρ c r s i)) (fun k o i => (in0_1 _ c _ k o i).trans (found_14 m ρ c k o i))
    (fun k o i => (in0_2 _ c _ k o i).trans ((taps_18 (W4 m ρ c) k o i).trans (by rw [W4_args m ρ c main_arg4 (by decide)]; rfl)))
    (fun o i => (in0_3 _ c _ o i).trans (found_9 m ρ c o i))
    (fun o => (in0_4 _ c _ 0 o).trans ((row_19 (W4 m ρ c) o).trans (congrFun (W4_args m ρ c main_arg2 (by decide)) _)))
    (fun o => (in0_5 _ c _ 0 o).trans ((row_20 (W4 m ρ c) o).trans (congrFun (W4_args m ρ c main_arg3 (by decide)) _)))
    (fun o => (in0_6 _ c _ 0 o).trans ((row_21 (W4 m ρ c) o).trans (congrFun (W4_args m ρ c main_arg5 (by decide)) _)))
    (fun o => (in0_7 _ c _ 0 o).trans ((row_22 (W4 m ρ c) o).trans (congrFun (W4_args m ρ c main_arg6 (by decide)) _)))
    (fun o => (in0_8 _ c _ 0 o).trans ((row_23 (W4 m ρ c) o).trans (congrFun (W4_args m ρ c main_arg8 (by decide)) _)))
    (fun o => (in0_9 _ c _ 0 o).trans ((row_24 (W4 m ρ c) o).trans (congrFun (W4_args m ρ c main_arg9 (by decide)) _))) r s o).trans ?_
  rw [first_widen _ (fun r s i => (m ((c : Thread nD τ).loc main_arg0)) (ix4 0 i r s)) (fun r s i => dif_pos i.isLt) _ (tapsOf (m ((c : Thread nD τ).loc main_arg1))) (fun _ _ _ => rfl) _ _
    (fun o i => (m ((c : Thread nD τ).loc main_arg7)) (ix4 o i 0 0)) (fun _ _ => rfl)]
  rfl

theorem call₁ (r s : Fin 34) (o : Fin 512) : V13 m ρ c main_v38 (ix3 r s o) = padded (image₁ m c) r.val s.val o := by
  refine (congrFun ((W13_of m ρ c main_v38 (by decide)).trans ((W12_of m ρ c main_v38 (by decide)).trans ((W11_of m ρ c main_v38 (by decide)).trans
    ((W10_of m ρ c main_v38 (by decide)).trans ((W9_of m ρ c main_v38 (by decide)).trans ((W8_arr m ρ c 7).trans (arr1 (V7 m ρ) c))))))) _).trans ?_
  exact out1 (V7 m ρ) c ⟨0, by decide⟩ (image₀ m c) (tapsOf (m ((c : Thread nD τ).loc main_arg10))) (tapsOf (m ((c : Thread nD τ).loc main_arg13))) (chan (m ((c : Thread nD τ).loc main_arg11))) (chan (m ((c : Thread nD τ).loc main_arg12))) (chan (m ((c : Thread nD τ).loc main_arg14))) (chan (m ((c : Thread nD τ).loc main_arg15)))
    (fun r s i => (in1_0 _ c _ r s i).trans (call₀ m ρ c r s i))
    (fun k o i => (in1_1 _ c _ k o i).trans ((taps_29 (W6 m ρ c) k o i).trans (by rw [W6_args m ρ c main_arg10 (by decide)]; rfl)))
    (fun k o i => (in1_2 _ c _ k o i).trans ((taps_33 (W6 m ρ c) k o i).trans (by rw [W6_args m ρ c main_arg13 (by decide)]; rfl)))
    (fun o => (in1_3 _ c _ 0 o).trans ((row_34 (W6 m ρ c) o).trans (congrFun (W6_args m ρ c main_arg11 (by decide)) _)))
    (fun o => (in1_4 _ c _ 0 o).trans ((row_35 (W6 m ρ c) o).trans (congrFun (W6_args m ρ c main_arg12 (by decide)) _)))
    (fun o => (in1_5 _ c _ 0 o).trans ((row_36 (W6 m ρ c) o).trans (congrFun (W6_args m ρ c main_arg14 (by decide)) _)))
    (fun o => (in1_6 _ c _ 0 o).trans ((row_37 (W6 m ρ c) o).trans (congrFun (W6_args m ρ c main_arg15 (by decide)) _))) r s o

/-- The class weights, as the third call finds them. -/
theorem found_40 (o : Fin 512) (n : Fin 2) : V13 m ρ c main_v40 (ix2 o ⟨n.val, by omega⟩) = (m ((c : Thread nD τ).loc main_arg22)) (ix2 n o) :=
  (congrFun ((W13_of m ρ c main_v40 (by decide)).trans ((W12_of m ρ c main_v40 (by decide)).trans (W11_of m ρ c main_v40 (by decide)))) _).trans
    ((last_40 (W8 m ρ c) o n).trans (congrFun (W8_args m ρ c main_arg22 (by decide)) _))

/-- The class offsets, as the third call finds them. -/
theorem found_42 (n : Fin 2) : V13 m ρ c main_v42 (ix2 0 ⟨n.val, by omega⟩) = (m ((c : Thread nD τ).loc main_arg23)) (ix1 n) :=
  (congrFun (W13_of m ρ c main_v42 (by decide)) _).trans
    ((last_42 (W10 m ρ c) n).trans (congrFun (W10_args m ρ c main_arg23 (by decide)) _))

/-- The program's result is the head of its arguments. -/
theorem result (n : Fin 2) : W15 m ρ c (Proc.devRef .tc main_v57) (ix1 n)
    = head (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) n := by
  refine (result_57 (W14 m ρ c) n).trans ((congrFun ((W14_arr m ρ c 9).trans (arr2 (V13 m ρ) c)) _).trans ?_)
  exact out2 (V13 m ρ) c ⟨0, by decide⟩ (image₁ m c) (tapsOf (m ((c : Thread nD τ).loc main_arg16))) (tapsOf (m ((c : Thread nD τ).loc main_arg19))) (chan (m ((c : Thread nD τ).loc main_arg17))) (chan (m ((c : Thread nD τ).loc main_arg18))) (chan (m ((c : Thread nD τ).loc main_arg20))) (chan (m ((c : Thread nD τ).loc main_arg21)))
    (fun o n => (m ((c : Thread nD τ).loc main_arg22)) (ix2 n o)) (fun n => (m ((c : Thread nD τ).loc main_arg23)) (ix1 n))
    (fun r s i => (in2_0 _ c _ r s i).trans (call₁ m ρ c r s i))
    (fun k o i => (in2_1 _ c _ k o i).trans ((taps_46 (W12 m ρ c) k o i).trans (by rw [W12_args m ρ c main_arg16 (by decide)]; rfl)))
    (fun k o i => (in2_2 _ c _ k o i).trans ((taps_50 (W12 m ρ c) k o i).trans (by rw [W12_args m ρ c main_arg19 (by decide)]; rfl)))
    (fun o => (in2_3 _ c _ 0 o).trans ((row_51 (W12 m ρ c) o).trans (congrFun (W12_args m ρ c main_arg17 (by decide)) _)))
    (fun o => (in2_4 _ c _ 0 o).trans ((row_52 (W12 m ρ c) o).trans (congrFun (W12_args m ρ c main_arg18 (by decide)) _)))
    (fun o => (in2_5 _ c _ 0 o).trans ((row_53 (W12 m ρ c) o).trans (congrFun (W12_args m ρ c main_arg20 (by decide)) _)))
    (fun o => (in2_6 _ c _ 0 o).trans ((row_54 (W12 m ρ c) o).trans (congrFun (W12_args m ρ c main_arg21 (by decide)) _)))
    (fun o n => (in2_7 _ c _ o _).trans (found_40 m ρ c o n)) (fun n => (in2_8 _ c _ 0 _).trans (found_42 m ρ c n)) n

end Cert.HeadIdeal.Result
-- ==== Proof.HeadRefStages.lean ====
/- What each stage of the head's reference holds, at an element. -/
module

public import proofs.«01_k».proof.Proof.Gen.HeadRefIdeal.Run
public import proofs.«01_k».proof.Proof.HeadSpec
public import Idealize.ShloMosaic.Lib.Pointwise
public import Idealize.ShloMosaic.Lib.Tactic.CleanTypes

@[expose] public section

set_option maxRecDepth 16384

noncomputable section

namespace Cert.HeadRefIdeal.Stages

open Cert.HeadMath Idealize.ShloMosaic Idealize.ShloMosaic.TcCoe Idealize.SL.Sem
open Cert.HeadRefIdeal Cert.HeadRefIdeal.Gen Cert.HeadRefIdeal.Value

variable (V : Valuation τ sig (Elt Ideal))

/-- The features, rows and columns first. -/
def X (r s : Fin 64) (i : Fin 256) : EReal := V (Proc.devRef .tc main_arg0) (ix4 0 i r s)

theorem v10 (i : Fin 256) (r s : Fin 66) : res_main_v10 V (ix3 i r s) = padded (X V) r.val s.val i := by
  unfold res_main_v10 res_main_v0
  clean_types
  pointwise
  refine Eq.trans ?_ (padded_eq (X V) r.val s.val i).symm
  split
  · rfl
  · exact float32_zero

theorem v63 (y : Fin 64 → Fin 64 → Fin 256 → EReal) (hy : ∀ i (r s : Fin 66), res_main_v10 V (ix3 i r s) = padded y r.val s.val i)
    (o : Fin 512) (r s : Fin 34) :
    res_main_v63 V (ix3 o r s)
      = padded (act (conv (padded y) (taps fun o i u v => V (Proc.devRef .tc main_arg1) (ix4 o i u v)) 2)
          (fun o => V (Proc.devRef .tc main_arg2) (ix1 o)) (fun o => V (Proc.devRef .tc main_arg3) (ix1 o))) r.val s.val o := by
  unfold res_main_v63
  revert hy
  generalize res_main_v10 V = x
  intro hy
  clean_types
  pointwise
  refine Eq.trans ?_ (padded_eq _ r.val s.val o).symm
  split
  · simp only [act, conv_taps, hy, Nat.add_comm 1, Nat.add_comm 2]
  · exact float32_zero

theorem v170 (y : Fin 32 → Fin 32 → Fin 512 → EReal) (hy : ∀ i (r s : Fin 34), res_main_v117 V (ix3 i r s) = padded y r.val s.val i)
    (o : Fin 512) (r s : Fin 34) :
    res_main_v170 V (ix3 o r s)
      = padded (act (conv (padded y) (taps fun o i u v => V (Proc.devRef .tc main_arg10) (ix4 o i u v)) 1)
          (fun o => V (Proc.devRef .tc main_arg11) (ix1 o)) (fun o => V (Proc.devRef .tc main_arg12) (ix1 o))) r.val s.val o := by
  unfold res_main_v170
  revert hy
  generalize res_main_v117 V = x
  intro hy
  clean_types
  pointwise
  refine Eq.trans ?_ (padded_eq _ r.val s.val o).symm
  split
  · simp only [act, conv_taps, hy, Nat.one_mul, Nat.add_comm 1, Nat.add_comm 2]
  · exact float32_zero

theorem v277 (y : Fin 32 → Fin 32 → Fin 512 → EReal) (hy : ∀ i (r s : Fin 34), res_main_v224 V (ix3 i r s) = padded y r.val s.val i)
    (o : Fin 512) (r s : Fin 34) :
    res_main_v277 V (ix3 o r s)
      = padded (act (conv (padded y) (taps fun o i u v => V (Proc.devRef .tc main_arg16) (ix4 o i u v)) 1)
          (fun o => V (Proc.devRef .tc main_arg17) (ix1 o)) (fun o => V (Proc.devRef .tc main_arg18) (ix1 o))) r.val s.val o := by
  unfold res_main_v277
  revert hy
  generalize res_main_v224 V = x
  intro hy
  clean_types
  pointwise
  refine Eq.trans ?_ (padded_eq _ r.val s.val o).symm
  split
  · simp only [act, conv_taps, hy, Nat.one_mul, Nat.add_comm 1, Nat.add_comm 2]
  · exact float32_zero

theorem v116 (y : Fin 32 → Fin 32 → Fin 512 → EReal) (hy : ∀ i (r s : Fin 34), res_main_v63 V (ix3 i r s) = padded y r.val s.val i)
    (o : Fin 512) (h v : Fin 32) :
    res_main_v116 V (ix3 o h v)
      = actAdd (conv (padded y) (taps fun o i u v => V (Proc.devRef .tc main_arg4) (ix4 o i u v)) 1)
          (fun o => V (Proc.devRef .tc main_arg5) (ix1 o)) (fun o => V (Proc.devRef .tc main_arg6) (ix1 o))
          (fun h v o => tap (padded (X V)) (fun o i => V (Proc.devRef .tc main_arg7) (ix4 o i 0 0)) (2 * h.val + 1) (2 * v.val + 1) o
            * V (Proc.devRef .tc main_arg8) (ix1 o) + V (Proc.devRef .tc main_arg9) (ix1 o)) h v o := by
  have hp : ∀ (h v : Fin 32) (i : Fin 256), padded (X V) (2 * h.val + 1) (2 * v.val + 1) i
      = V (Proc.devRef .tc main_arg0) (ix4 0 i ⟨2 * h.val, by omega⟩ ⟨2 * v.val, by omega⟩) := fun h v i => by
    unfold padded
    rw [dif_pos (by omega)]
    rfl
  unfold res_main_v116 res_main_v114 res_main_v0
  revert hy
  generalize res_main_v63 V = x
  intro hy
  clean_types
  pointwise
  simp only [actAdd, conv_taps, tap_comm, hp, hy, Nat.one_mul, Nat.add_comm 1, Nat.add_comm 2]

theorem v223 (y z : Fin 32 → Fin 32 → Fin 512 → EReal) (hy : ∀ i (r s : Fin 34), res_main_v170 V (ix3 i r s) = padded y r.val s.val i)
    (hz : ∀ i (h v : Fin 32), res_main_v116 V (ix3 i h v) = z h v i) (o : Fin 512) (h v : Fin 32) :
    res_main_v223 V (ix3 o h v)
      = actAdd (conv (padded y) (taps fun o i u v => V (Proc.devRef .tc main_arg13) (ix4 o i u v)) 1)
          (fun o => V (Proc.devRef .tc main_arg14) (ix1 o)) (fun o => V (Proc.devRef .tc main_arg15) (ix1 o)) z h v o := by
  unfold res_main_v223
  revert hy hz
  generalize res_main_v170 V = x
  generalize res_main_v116 V = x'
  intro hy hz
  clean_types
  pointwise
  simp only [actAdd, conv_taps, hy, hz, Nat.one_mul, Nat.add_comm 1, Nat.add_comm 2]

theorem v117 (y : Fin 32 → Fin 32 → Fin 512 → EReal) (hy : ∀ i (h v : Fin 32), res_main_v116 V (ix3 i h v) = y h v i)
    (o : Fin 512) (r s : Fin 34) : res_main_v117 V (ix3 o r s) = padded y r.val s.val o := by
  unfold res_main_v117
  revert hy
  generalize res_main_v116 V = x
  intro hy
  clean_types
  pointwise
  refine Eq.trans ?_ (padded_eq y r.val s.val o).symm
  split
  · exact hy _ _ _
  · exact float32_zero

theorem v224 (y : Fin 32 → Fin 32 → Fin 512 → EReal) (hy : ∀ i (h v : Fin 32), res_main_v223 V (ix3 i h v) = y h v i)
    (o : Fin 512) (r s : Fin 34) : res_main_v224 V (ix3 o r s) = padded y r.val s.val o := by
  unfold res_main_v224
  revert hy
  generalize res_main_v223 V = x
  intro hy
  clean_types
  pointwise
  refine Eq.trans ?_ (padded_eq y r.val s.val o).symm
  split
  · exact hy _ _ _
  · exact float32_zero

theorem v336 (y z : Fin 32 → Fin 32 → Fin 512 → EReal) (hy : ∀ i (r s : Fin 34), res_main_v277 V (ix3 i r s) = padded y r.val s.val i)
    (hz : ∀ i (h v : Fin 32), res_main_v223 V (ix3 i h v) = z h v i) (n : Fin 2) :
    res_main_v336 V (ix1 n)
      = logit (actAdd (conv (padded y) (taps fun o i u v => V (Proc.devRef .tc main_arg19) (ix4 o i u v)) 1)
          (fun o => V (Proc.devRef .tc main_arg20) (ix1 o)) (fun o => V (Proc.devRef .tc main_arg21) (ix1 o)) z)
          (fun o n => V (Proc.devRef .tc main_arg22) (ix2 n o)) (fun n => V (Proc.devRef .tc main_arg23) (ix1 n)) n := by
  unfold res_main_v336
  revert hy hz
  generalize res_main_v277 V = x
  generalize res_main_v223 V = x'
  intro hy hz
  clean_types
  pointwise
  simp only [logit, ← total_rows, actAdd, conv_taps, hy, hz, Nat.one_mul, Nat.add_comm 1, Nat.add_comm 2, ofBits_1024,
    Ideal.div_coe (show (1024 : ℝ) ≠ 0 by norm_num)]

theorem v346 (l : Fin 2 → EReal) (hl : ∀ n, res_main_v336 V (ix1 n) = l n) (n : Fin 2) :
    (Host.divf (res_main_v342 V) (broadcastInDim S2 ![0] bcast_S1_S2_0 (broadcastInDim S1 ![] bcast_S_S1 (Host.reduceAdd (res_main_v342 V) (constant S_ .f32 0x00000000#32) reducesTo_S2_S_d0 h_S_))) : FVec Ideal S2 .f32) (ix1 n)
      = softmax₂ l n := by
  unfold res_main_v342
  revert hl
  generalize res_main_v336 V = x
  intro hl
  clean_types
  pointwise
  simp only [hl, ofBits_neg_top, max_two, Fin.sum_univ_two, softmax₂]

/-- The reference's result is the head of its arguments. -/
theorem result (n : Fin 2) :
    (Host.divf (res_main_v342 V) (broadcastInDim S2 ![0] bcast_S1_S2_0 (broadcastInDim S1 ![] bcast_S_S1 (Host.reduceAdd (res_main_v342 V) (constant S_ .f32 0x00000000#32) reducesTo_S2_S_d0 h_S_))) : FVec Ideal S2 .f32) (ix1 n)
      = head (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) n := by
  have e₁ := v116 V _ (v63 V _ (v10 V))
  have e₂ := v223 V _ _ (v170 V _ (v117 V _ e₁)) e₁
  exact v346 V _ (v336 V _ _ (v277 V _ (v224 V _ e₂)) e₂) n

end Cert.HeadRefIdeal.Stages
-- ==== Proof.HeadEq.lean ====
/- The head's equation: the program's result and the reference's are the head of the same arguments. -/
module

public import proofs.«01_k».proof.Defs
public import proofs.«01_k».proof.Proof.HeadIdealValue
public import proofs.«01_k».proof.Proof.HeadRefStages

@[expose] public section

set_option maxRecDepth 16384

noncomputable section

namespace Cert.HeadIdeal.Result

open Idealize.ShloMosaic Idealize.ShloMosaic.TcCoe Idealize.SL.Sem
open Cert.HeadIdeal Cert.HeadIdeal.Gen Cert.HeadIdeal.Run

theorem equation : algebraic_HeadIdeal_HeadRefIdeal := by
  intro m ρ m' ρ' _ hagree
  refine ⟨fun c => W15 m ρ c (Proc.devRef .tc main_v57), ?_, ?_⟩
  · exact (θ_run defs _ _).mono (fun _ ⟨h, _⟩ c =>
      ⟨h c _ (mem_uc main_v57 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c),
       (h c _ (mem_uc main_arg15 (by decide))).trans (W15_main_arg15 m ρ c),
       (h c _ (mem_uc main_arg16 (by decide))).trans (W15_main_arg16 m ρ c),
       (h c _ (mem_uc main_arg17 (by decide))).trans (W15_main_arg17 m ρ c),
       (h c _ (mem_uc main_arg18 (by decide))).trans (W15_main_arg18 m ρ c),
       (h c _ (mem_uc main_arg19 (by decide))).trans (W15_main_arg19 m ρ c),
       (h c _ (mem_uc main_arg20 (by decide))).trans (W15_main_arg20 m ρ c),
       (h c _ (mem_uc main_arg21 (by decide))).trans (W15_main_arg21 m ρ c),
       (h c _ (mem_uc main_arg22 (by decide))).trans (W15_main_arg22 m ρ c),
       (h c _ (mem_uc main_arg23 (by decide))).trans (W15_main_arg23 m ρ c)⟩) (run m ρ)
  · refine (θ_run Cert.HeadRefIdeal.defs _ _).mono (fun _ h c => ⟨?_, (h c).2⟩) (Cert.HeadRefIdeal.Value.run (F := Ideal) m' ρ')
    rw [(h c).1]
    funext i
    obtain ⟨n, rfl⟩ : ∃ n : Fin 2, i = ix1 n := ⟨i 0, eq_ix1 i⟩
    refine (Cert.HeadRefIdeal.Stages.result _ n).trans (Eq.trans ?_ (result m ρ c n).symm)
    change Cert.HeadMath.head (m' ((c.tc : Thread Cert.HeadRefIdeal.nD Cert.HeadRefIdeal.τ).loc Cert.HeadRefIdeal.main_arg0)) (m' ((c.tc : Thread Cert.HeadRefIdeal.nD Cert.HeadRefIdeal.τ).loc Cert.HeadRefIdeal.main_arg1)) (m' ((c.tc : Thread Cert.HeadRefIdeal.nD Cert.HeadRefIdeal.τ).loc Cert.HeadRefIdeal.main_arg2)) (m' ((c.tc : Thread Cert.HeadRefIdeal.nD Cert.HeadRefIdeal.τ).loc Cert.HeadRefIdeal.main_arg3)) (m' ((c.tc : Thread Cert.HeadRefIdeal.nD Cert.HeadRefIdeal.τ).loc Cert.HeadRefIdeal.main_arg4)) (m' ((c.tc : Thread Cert.HeadRefIdeal.nD Cert.HeadRefIdeal.τ).loc Cert.HeadRefIdeal.main_arg5)) (m' ((c.tc : Thread Cert.HeadRefIdeal.nD Cert.HeadRefIdeal.τ).loc Cert.HeadRefIdeal.main_arg6)) (m' ((c.tc : Thread Cert.HeadRefIdeal.nD Cert.HeadRefIdeal.τ).loc Cert.HeadRefIdeal.main_arg7)) (m' ((c.tc : Thread Cert.HeadRefIdeal.nD Cert.HeadRefIdeal.τ).loc Cert.HeadRefIdeal.main_arg8)) (m' ((c.tc : Thread Cert.HeadRefIdeal.nD Cert.HeadRefIdeal.τ).loc Cert.HeadRefIdeal.main_arg9)) (m' ((c.tc : Thread Cert.HeadRefIdeal.nD Cert.HeadRefIdeal.τ).loc Cert.HeadRefIdeal.main_arg10)) (m' ((c.tc : Thread Cert.HeadRefIdeal.nD Cert.HeadRefIdeal.τ).loc Cert.HeadRefIdeal.main_arg11)) (m' ((c.tc : Thread Cert.HeadRefIdeal.nD Cert.HeadRefIdeal.τ).loc Cert.HeadRefIdeal.main_arg12)) (m' ((c.tc : Thread Cert.HeadRefIdeal.nD Cert.HeadRefIdeal.τ).loc Cert.HeadRefIdeal.main_arg13)) (m' ((c.tc : Thread Cert.HeadRefIdeal.nD Cert.HeadRefIdeal.τ).loc Cert.HeadRefIdeal.main_arg14)) (m' ((c.tc : Thread Cert.HeadRefIdeal.nD Cert.HeadRefIdeal.τ).loc Cert.HeadRefIdeal.main_arg15)) (m' ((c.tc : Thread Cert.HeadRefIdeal.nD Cert.HeadRefIdeal.τ).loc Cert.HeadRefIdeal.main_arg16)) (m' ((c.tc : Thread Cert.HeadRefIdeal.nD Cert.HeadRefIdeal.τ).loc Cert.HeadRefIdeal.main_arg17)) (m' ((c.tc : Thread Cert.HeadRefIdeal.nD Cert.HeadRefIdeal.τ).loc Cert.HeadRefIdeal.main_arg18)) (m' ((c.tc : Thread Cert.HeadRefIdeal.nD Cert.HeadRefIdeal.τ).loc Cert.HeadRefIdeal.main_arg19)) (m' ((c.tc : Thread Cert.HeadRefIdeal.nD Cert.HeadRefIdeal.τ).loc Cert.HeadRefIdeal.main_arg20)) (m' ((c.tc : Thread Cert.HeadRefIdeal.nD Cert.HeadRefIdeal.τ).loc Cert.HeadRefIdeal.main_arg21)) (m' ((c.tc : Thread Cert.HeadRefIdeal.nD Cert.HeadRefIdeal.τ).loc Cert.HeadRefIdeal.main_arg22)) (m' ((c.tc : Thread Cert.HeadRefIdeal.nD Cert.HeadRefIdeal.τ).loc Cert.HeadRefIdeal.main_arg23)) n = _
    simp only [hagree c]

end Cert.HeadIdeal.Result
-- ==== Proof.lean ====
/- The claims put together. The score's result is read at an element and compared with its reference there; the head's two results are
   both the head of the same arguments (HeadEq). The frames of the head's programs are HeadFrame's and HeadIdealFrame's; a reference's is
   its run, weakened, its counters zero since it declares no semaphore. -/
module

public import proofs.«01_k».proof.Defs
public import proofs.«01_k».proof.Proof.Gen.Score.Frame
public import proofs.«01_k».proof.Proof.Gen.ScoreIdeal.Value
public import proofs.«01_k».proof.Proof.Gen.ScoreRefIdeal.Run
public import proofs.«01_k».proof.Proof.ScoreEq
public import proofs.«01_k».proof.Proof.HeadFrame
public import proofs.«01_k».proof.Proof.HeadEq
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem quiescent_ScoreRefIdeal : quiescent_ScoreRefIdeal := fun m ρ _ =>
  (θ_run Cert.ScoreRefIdeal.defs _ _).mono (fun r h => ⟨fun c => (h c).2, sem_eq_zero_of_no_sems (by decide) r.2⟩)
    (Cert.ScoreRefIdeal.Value.run (F := Ideal) m ρ)

theorem algebraic_ScoreIdeal_ScoreRefIdeal : algebraic_ScoreIdeal_ScoreRefIdeal := by
  intro m ρ m' ρ' _ hagree
  refine ⟨_, Cert.ScoreIdeal.Value.run (F := Ideal) m ρ, ?_⟩
  refine (θ_run Cert.ScoreRefIdeal.defs _ _).mono (fun _ h c => ⟨?_, (h c).2⟩) (Cert.ScoreRefIdeal.Value.run (F := Ideal) m' ρ')
  rw [(h c).1]
  simp only [hagree c]
  funext i
  obtain ⟨P, h, w, rfl⟩ : ∃ (P : Fin 4096) (h w : Fin 64), i = ix3 P h w := ⟨i 0, i 1, i 2, eq_ix3 i⟩
  rw [Cert.ScoreIdeal.Block.result]
  clean_types
  pointwise
  simp only [Cert.ScoreIdeal.Block.score, Cert.ScoreIdeal.Block.proj1, Cert.ScoreIdeal.Block.proj2, Cert.ScoreIdeal.Block.feat_at, zero_sub]
  rfl

theorem quiescent_HeadRefIdeal : quiescent_HeadRefIdeal := fun m ρ _ =>
  (θ_run Cert.HeadRefIdeal.defs _ _).mono (fun r h => ⟨fun c => (h c).2, sem_eq_zero_of_no_sems (by decide) r.2⟩)
    (Cert.HeadRefIdeal.Value.run (F := Ideal) m ρ)

theorem preserves_Head_HeadIdeal : preserves_Head_HeadIdeal :=
  IdealRules.named_const.statement Cert.HeadIdeal.κ "mask" .f32 0xF149F2CA#32 ⊥ rfl

theorem claim : Cert.Claim := ⟨Cert.Score.Gen.facts, Cert.ScoreIdeal.Gen.facts, Cert.ScoreRefIdeal.Gen.facts,
  Cert.Head.Gen.facts, Cert.HeadIdeal.Gen.facts, Cert.HeadRefIdeal.Gen.facts,
  fun m ρ _ => Cert.Score.Gen.frame m ρ, fun m ρ _ => Cert.ScoreIdeal.Gen.frame m ρ, quiescent_ScoreRefIdeal,
  fun m ρ _ => Cert.Head.Run.frame m ρ, fun m ρ _ => Cert.HeadIdeal.Run.frame m ρ, quiescent_HeadRefIdeal,
  (trivial : preserves_Score_ScoreIdeal), algebraic_ScoreIdeal_ScoreRefIdeal,
  preserves_Head_HeadIdeal, Cert.HeadIdeal.Result.equation⟩

end Cert.Proof

end
